-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_are_int32 [hPre_ids_are_int32 : Cert.Pre_ids_are_int32.Facts] (m : (ℓ : Loc Cert.KernelIdeal.nD Cert.KernelIdeal.τ Cert.KernelIdeal.sig) → Buf (Elt Ideal) ℓ) : Prop :=
  ∀ c : Dev Cert.KernelIdeal.nD,
    (Cert.Pre_ids_are_int32.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_are_int32 [hPre_ids_are_int32 : Cert.Pre_ids_are_int32.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_are_int32.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ids_are_int32 [hKernelIdeal : Cert.KernelIdeal.Facts] [hPre_ids_are_int32 : Cert.Pre_ids_are_int32.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_are_int32 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ids_are_int32 [hReferenceIdeal : Cert.ReferenceIdeal.Facts] [hPre_ids_are_int32 : Cert.Pre_ids_are_int32.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_are_int32 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_ids_are_int32 [hKernelIdeal : Cert.KernelIdeal.Facts] [hReferenceIdeal : Cert.ReferenceIdeal.Facts] [hPre_ids_are_int32 : Cert.Pre_ids_are_int32.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_are_int32 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ids_are_int32 : Cert.Pre_ids_are_int32.Facts),
    quiescent_Kernel (hKernel := hKernel)
    ∧ quiescent_KernelIdeal (hKernelIdeal := hKernelIdeal)
    ∧ quiescent_KernelIdeal_pre_ids_are_int32 (hKernelIdeal := hKernelIdeal) (hPre_ids_are_int32 := hPre_ids_are_int32)
    ∧ quiescent_ReferenceIdeal (hReferenceIdeal := hReferenceIdeal)
    ∧ quiescent_ReferenceIdeal_pre_ids_are_int32 (hReferenceIdeal := hReferenceIdeal) (hPre_ids_are_int32 := hPre_ids_are_int32)
    ∧ preserves_Kernel_KernelIdeal
    ∧ algebraic_KernelIdeal_ReferenceIdeal_pre_ids_are_int32 (hKernelIdeal := hKernelIdeal) (hReferenceIdeal := hReferenceIdeal) (hPre_ids_are_int32 := hPre_ids_are_int32)
-- ==== Pre_ids_are_int32.lean ====
abbrev S64x4 : Shape := ⟨2, ![64, 4]⟩
abbrev S64 : Shape := ⟨1, ![64]⟩
abbrev S64x64 : Shape := ⟨2, ![64, 64]⟩
abbrev S100000x65 : Shape := ⟨2, ![100000, 65]⟩
abbrev S100000x1 : Shape := ⟨2, ![100000, 1]⟩
abbrev S100000 : Shape := ⟨1, ![100000]⟩
abbrev S_ : Shape := ⟨0, ![]⟩

class Facts : Prop where
  slices_S100000x65_S100000x1_0_64 : S100000x65.Slices ![0, 64] S100000x1
  shapeCasts_S100000x1_S100000 : S100000x1.ShapeCasts S100000
  bcast_S_S100000 : S_.BroadcastsInDim S100000 (![] : Fin 0 → Fin S100000.rank)

variable [Facts]

def fn {F : FTy → Type} [FloatOps F] (main_arg0 : FVec F S64x4 .f32) (main_arg1 : FVec F S64 .f32) (main_arg2 : IVec S64 32) (main_arg3 : FVec F S64x64 .f32) (main_arg4 : FVec F S100000x65 .f32) : IVec S100000 1 :=
  let main_v0 : FVec F S100000x1 .f32 := (extractStridedSlice S100000x1 ![0, 64] · slices_S100000x65_S100000x1_0_64) main_arg4
  let main_v1 : FVec F S100000 .f32 := shapeCast S100000 main_v0 shapeCasts_S100000x1_S100000
  let main_cst : FVec F S_ .f32 := constant S_ .f32 0xCF000000#32
  let main_v2 : FVec F S100000 .f32 := broadcastInDim S100000 ![] bcast_S_S100000 main_cst
  let main_v3 : IVec S100000 1 := cmpf .oge main_v1 main_v2
  let main_cst_0 : FVec F S_ .f32 := constant S_ .f32 0x4F000000#32
  let main_v4 : FVec F S100000 .f32 := broadcastInDim S100000 ![] bcast_S_S100000 main_cst_0
  let main_v5 : IVec S100000 1 := cmpf .olt main_v1 main_v4
  let main_v6 : IVec S100000 1 := andi main_v3 main_v5
  let main_v7 : FVec F S100000 .f32 := Host.floor main_v1
  let main_v8 : IVec S100000 1 := cmpf .oeq main_v7 main_v1
  let main_v9 : IVec S100000 1 := andi main_v6 main_v8
  main_v9
-- ==== Kernel.lean ====
abbrev S64x4 : Shape := ⟨2, ![64, 4]⟩
abbrev S64 : Shape := ⟨1, ![64]⟩
abbrev S64x64 : Shape := ⟨2, ![64, 64]⟩
abbrev S100000x65 : Shape := ⟨2, ![100000, 65]⟩
abbrev S64x1 : Shape := ⟨2, ![64, 1]⟩
abbrev S4000x65 : Shape := ⟨2, ![4000, 65]⟩
abbrev S64x8 : Shape := ⟨2, ![64, 8]⟩
abbrev S4000x64 : Shape := ⟨2, ![4000, 64]⟩
abbrev S4000x1 : Shape := ⟨2, ![4000, 1]⟩
abbrev S64x4000 : Shape := ⟨2, ![64, 4000]⟩
abbrev S64x3 : Shape := ⟨2, ![64, 3]⟩
abbrev S64x16 : Shape := ⟨2, ![64, 16]⟩

abbrev nBuf : Space → Nat
  | .hbm => 9
  | .vmem => 7
  | .smem => 0
  | _ => 0

abbrev bufTy : (tb : Table) → Fin (tcTables nBuf tb) → BufTy
  | .hbm, ⟨0, _⟩ => ⟨S64x4, .f32⟩
  | .hbm, ⟨1, _⟩ => ⟨S64, .f32⟩
  | .hbm, ⟨2, _⟩ => ⟨S64, .i32⟩
  | .hbm, ⟨3, _⟩ => ⟨S64x64, .f32⟩
  | .hbm, ⟨4, _⟩ => ⟨S100000x65, .f32⟩
  | .hbm, ⟨5, _⟩ => ⟨S64x1, .f32⟩
  | .hbm, ⟨6, _⟩ => ⟨S64x1, .i32⟩
  | .hbm, ⟨7, _⟩ => ⟨S64, .f32⟩
  | .hbm, ⟨8, _⟩ => ⟨S64, .i32⟩
  | .local _ .vmem, ⟨0, _⟩ => ⟨S64x64, .f32⟩
  | .local _ .vmem, ⟨1, _⟩ => ⟨S4000x65, .f32⟩
  | .local _ .vmem, ⟨2, _⟩ => ⟨S4000x65, .f32⟩
  | .local _ .vmem, ⟨3, _⟩ => ⟨S64x1, .f32⟩
  | .local _ .vmem, ⟨4, _⟩ => ⟨S64x1, .i32⟩
  | .local _ .vmem, ⟨5, _⟩ => ⟨S64x8, .f32⟩
  | .local _ .vmem, ⟨6, _⟩ => ⟨S64x8, .f32⟩
  | _, _ => ⟨S64x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0_0 : Ref sig .tc := ⟨.hbm, 5, rfl⟩
abbrev main_call0_v0_1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v210 : BitVec 1 := Scalar.cmpi .eq arg0 c24_i32
  let v211 : BitVec 32 := Scalar.extui v210
  let c0_i32_78 : BitVec 32 := 0#32
  let v212 : BitVec 1 := Scalar.cmpi .ne v211 c0_i32_78
  v212

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S64x4 : Shape := ⟨2, ![64, 4]⟩
abbrev S64 : Shape := ⟨1, ![64]⟩
abbrev S64x64 : Shape := ⟨2, ![64, 64]⟩
abbrev S100000x65 : Shape := ⟨2, ![100000, 65]⟩
abbrev S100000x64 : Shape := ⟨2, ![100000, 64]⟩
abbrev S100000x1 : Shape := ⟨2, ![100000, 1]⟩
abbrev S100000 : Shape := ⟨1, ![100000]⟩
abbrev S64x100000 : Shape := ⟨2, ![64, 100000]⟩
abbrev S64x5 : Shape := ⟨2, ![64, 5]⟩
abbrev S_ : Shape := ⟨0, ![]⟩
abbrev S64x5x1 : Shape := ⟨3, ![64, 5, 1]⟩
abbrev S1 : Shape := ⟨1, ![1]⟩
abbrev S1x1x1 : Shape := ⟨3, ![1, 1, 1]⟩
abbrev S64x1x5 : Shape := ⟨3, ![64, 1, 5]⟩
abbrev S64x5x5 : Shape := ⟨3, ![64, 5, 5]⟩
abbrev S64x1 : Shape := ⟨2, ![64, 1]⟩
abbrev S64x1x1 : Shape := ⟨3, ![64, 1, 1]⟩

abbrev nBuf : Space → Nat
  | .hbm => 147
  | .vmem => 0
  | .smem => 0
  | _ => 0

abbrev hbmTy0_0 (i : Nat) : BufTy := match i % 128 with
  | 0 => ⟨S64x4, .f32⟩
  | 1 => ⟨S64, .f32⟩
  | 2 => ⟨S64, .i32⟩
  | 3 => ⟨S64x64, .f32⟩
  | 4 => ⟨S100000x65, .f32⟩
  | 5 => ⟨S100000x64, .f32⟩
  | 6 => ⟨S100000x1, .f32⟩
  | 7 => ⟨S100000, .f32⟩
  | 8 => ⟨S100000, .i32⟩
  | 9 => ⟨S64x100000, .f32⟩
  | 10 => ⟨S64x100000, .f32⟩
  | 11 => ⟨S64x5, .f32⟩
  | 12 => ⟨S64x5, .i32⟩
  | 13 => ⟨S_, .f32⟩
  | 14 => ⟨S64x5, .f32⟩
  | 15 => ⟨S64x5, .i1⟩
  | 16 => ⟨S_, .i32⟩
  | 17 => ⟨S64x5, .i32⟩
  | 18 => ⟨S64x5, .i1⟩
  | 19 => ⟨S_, .i32⟩
  | 20 => ⟨S64x5, .i32⟩
  | 21 => ⟨S64x5, .i32⟩
  | 22 => ⟨S64x5, .i32⟩
  | 23 => ⟨S64x5x1, .i32⟩
  | 24 => ⟨S1, .i32⟩
  | 25 => ⟨S_, .i32⟩
  | 26 => ⟨S64x5x1, .i32⟩
  | 27 => ⟨S64x5x1, .i1⟩
  | 28 => ⟨S1x1x1, .i32⟩
  | 29 => ⟨S64x5x1, .i32⟩
  | 30 => ⟨S64x5x1, .i1⟩
  | 31 => ⟨S64x5x1, .i1⟩
  | 32 => ⟨S_, .i1⟩
  | 33 => ⟨S64x5, .i1⟩
  | 34 => ⟨S64x5, .i32⟩
  | 35 => ⟨S_, .i32⟩
  | 36 => ⟨S64x5, .i32⟩
  | 37 => ⟨S64x5, .i32⟩
  | 38 => ⟨S64x5x1, .i32⟩
  | 39 => ⟨S64x1x5, .i32⟩
  | 40 => ⟨S64x5x5, .i32⟩
  | 41 => ⟨S64x5x5, .i32⟩
  | 42 => ⟨S64x5x5, .i1⟩
  | 43 => ⟨S64x1x5, .i1⟩
  | 44 => ⟨S_, .i1⟩
  | 45 => ⟨S64x5x5, .i1⟩
  | 46 => ⟨S64x5x5, .i1⟩
  | 47 => ⟨S64x5x5, .i1⟩
  | 48 => ⟨S64x5x5, .i32⟩
  | 49 => ⟨S_, .i32⟩
  | 50 => ⟨S64x5, .i32⟩
  | 51 => ⟨S64x5, .f32⟩
  | 52 => ⟨S_, .f32⟩
  | 53 => ⟨S64x5, .f32⟩
  | 54 => ⟨S64x5, .f32⟩
  | 55 => ⟨S64x5, .f32⟩
  | 56 => ⟨S64x5, .f32⟩
  | 57 => ⟨S_, .f32⟩
  | 58 => ⟨S_, .f32⟩
  | 59 => ⟨S64x5, .f32⟩
  | 60 => ⟨S64x5, .f32⟩
  | 61 => ⟨S64x5, .i32⟩
  | 62 => ⟨S_, .f32⟩
  | 63 => ⟨S_, .i32⟩
  | 64 => ⟨S64, .f32⟩
  | 65 => ⟨S64, .i32⟩
  | 66 => ⟨S64x1, .i32⟩
  | 67 => ⟨S_, .i32⟩
  | 68 => ⟨S64x1, .i32⟩
  | 69 => ⟨S64x1, .i1⟩
  | 70 => ⟨S_, .i32⟩
  | 71 => ⟨S64x1, .i32⟩
  | 72 => ⟨S64x1, .i32⟩
  | 73 => ⟨S64x1, .i32⟩
  | 74 => ⟨S64x1x1, .i32⟩
  | 75 => ⟨S1, .i32⟩
  | 76 => ⟨S_, .i32⟩
  | 77 => ⟨S64x1x1, .i32⟩
  | 78 => ⟨S64x1x1, .i1⟩
  | 79 => ⟨S1x1x1, .i32⟩
  | 80 => ⟨S64x1x1, .i32⟩
  | 81 => ⟨S64x1x1, .i1⟩
  | 82 => ⟨S64x1x1, .i1⟩
  | 83 => ⟨S_, .i1⟩
  | 84 => ⟨S64x1, .i1⟩
  | 85 => ⟨S64x1, .i32⟩
  | 86 => ⟨S_, .i32⟩
  | 87 => ⟨S64x1, .i32⟩
  | 88 => ⟨S64x1, .i32⟩
  | 89 => ⟨S64, .i32⟩
  | 90 => ⟨S64x1, .i32⟩
  | 91 => ⟨S_, .i32⟩
  | 92 => ⟨S64x1, .i32⟩
  | 93 => ⟨S64x1, .i1⟩
  | 94 => ⟨S_, .i32⟩
  | 95 => ⟨S64x1, .i32⟩
  | 96 => ⟨S64x1, .i32⟩
  | 97 => ⟨S64x1, .i32⟩
  | 98 => ⟨S64x1x1, .i32⟩
  | 99 => ⟨S1, .i32⟩
  | 100 => ⟨S_, .i32⟩
  | 101 => ⟨S64x1x1, .i32⟩
  | 102 => ⟨S64x1x1, .i1⟩
  | 103 => ⟨S1x1x1, .i32⟩
  | 104 => ⟨S64x1x1, .i32⟩
  | 105 => ⟨S64x1x1, .i1⟩
  | 106 => ⟨S64x1x1, .i1⟩
  | 107 => ⟨S_, .i1⟩
  | 108 => ⟨S64x1, .i1⟩
  | 109 => ⟨S64x1, .i32⟩
  | 110 => ⟨S_, .i32⟩
  | 111 => ⟨S64x1, .i32⟩
  | 112 => ⟨S64x1, .i32⟩
  | 113 => ⟨S64, .i32⟩
  | 114 => ⟨S64x5, .i32⟩
  | 115 => ⟨S_, .i32⟩
  | 116 => ⟨S64, .i32⟩
  | 117 => ⟨S_, .i32⟩
  | 118 => ⟨S64, .i32⟩
  | 119 => ⟨S64, .i1⟩
  | 120 => ⟨S64, .f32⟩
  | 121 => ⟨S_, .i32⟩
  | 122 => ⟨S64, .i32⟩
  | 123 => ⟨S64, .i32⟩
  | 124 => ⟨S64, .f32⟩
  | 125 => ⟨S64, .f32⟩
  | 126 => ⟨S_, .f32⟩
  | 127 => ⟨S64, .f32⟩
  | _ => ⟨S64x4, .f32⟩

abbrev hbmTy0_1 (i : Nat) : BufTy := match i % 128 with
  | 0 => ⟨S64, .i1⟩
  | 1 => ⟨S64, .i1⟩
  | 2 => ⟨S_, .i32⟩
  | 3 => ⟨S_, .i32⟩
  | 4 => ⟨S64, .i32⟩
  | 5 => ⟨S64, .i32⟩
  | 6 => ⟨S64x1, .i32⟩
  | 7 => ⟨S64x5, .i32⟩
  | 8 => ⟨S64x5, .i1⟩
  | 9 => ⟨S_, .f32⟩
  | 10 => ⟨S_, .f32⟩
  | 11 => ⟨S64x5, .f32⟩
  | 12 => ⟨S64x5, .f32⟩
  | 13 => ⟨S_, .f32⟩
  | 14 => ⟨S64, .f32⟩
  | 15 => ⟨S_, .f32⟩
  | 16 => ⟨S_, .f32⟩
  | 17 => ⟨S64, .f32⟩
  | 18 => ⟨S64, .f32⟩
  | _ => ⟨S64x4, .f32⟩

abbrev hbmTy (i : Nat) : BufTy := match i / 128 with
  | 0 => hbmTy0_0 i
  | 1 => hbmTy0_1 i
  | _ => ⟨S64x4, .f32⟩

abbrev bufTy : (tb : Table) → Fin (tcTables nBuf tb) → BufTy
  | .hbm, ⟨i, _⟩ => hbmTy i
  | _, _ => ⟨S64x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_values : Ref sig .tc := ⟨.hbm, 11, rfl⟩
abbrev main_indices : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_c_4 : Ref sig .tc := ⟨.hbm, 35, rfl⟩
abbrev main_call0_v14 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c : Ref sig .tc := ⟨.hbm, 44, rfl⟩
abbrev main_call1_v0 : Ref sig .tc := ⟨.hbm, 45, rfl⟩
abbrev main_call1_v1 : Ref sig .tc := ⟨.hbm, 46, rfl⟩
abbrev main_v15 : Ref sig .tc := ⟨.hbm, 47, rfl⟩
abbrev main_v16 : Ref sig .tc := ⟨.hbm, 48, rfl⟩
abbrev main_c_0 : Ref sig .tc := ⟨.hbm, 49, rfl⟩
abbrev main_v17 : Ref sig .tc := ⟨.hbm, 50, rfl⟩
abbrev main_v18 : Ref sig .tc := ⟨.hbm, 51, rfl⟩
abbrev main_cst_1 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_2 : Ref sig .tc := ⟨.hbm, 57, rfl⟩
abbrev main_call2_v0 : Ref sig .tc := ⟨.hbm, 58, rfl⟩
abbrev main_call2_v1 : Ref sig .tc := ⟨.hbm, 59, rfl⟩
abbrev main_v23 : Ref sig .tc := ⟨.hbm, 60, rfl⟩
abbrev main_call3_v0 : Ref sig .tc := ⟨.hbm, 61, rfl⟩
abbrev main_call3_cst : Ref sig .tc := ⟨.hbm, 62, rfl⟩
abbrev main_call3_c : Ref sig .tc := ⟨.hbm, 63, rfl⟩
abbrev main_call3_v1_0 : Ref sig .tc := ⟨.hbm, 64, rfl⟩
abbrev main_v24 : Ref sig .tc := ⟨.hbm, 65, rfl⟩
abbrev main_v25 : Ref sig .tc := ⟨.hbm, 66, rfl⟩
abbrev main_call4_c : Ref sig .tc := ⟨.hbm, 67, rfl⟩
abbrev main_call4_v0 : Ref sig .tc := ⟨.hbm, 68, rfl⟩
abbrev main_call4_v1 : Ref sig .tc := ⟨.hbm, 69, rfl⟩
abbrev main_call4_c_0 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_c_1 : Ref sig .tc := ⟨.hbm, 75, rfl⟩
abbrev main_call4_c_2 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_3 : Ref sig .tc := ⟨.hbm, 83, rfl⟩
abbrev main_call4_v12 : Ref sig .tc := ⟨.hbm, 84, rfl⟩
abbrev main_call4_v13 : Ref sig .tc := ⟨.hbm, 85, rfl⟩
abbrev main_call4_c_4 : Ref sig .tc := ⟨.hbm, 86, rfl⟩
abbrev main_call4_v14 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_call5_c : Ref sig .tc := ⟨.hbm, 91, rfl⟩
abbrev main_call5_v0 : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_v5 : Ref sig .tc := ⟨.hbm, 98, rfl⟩
abbrev main_call5_c_1 : Ref sig .tc := ⟨.hbm, 99, rfl⟩
abbrev main_call5_c_2 : Ref sig .tc := ⟨.hbm, 100, rfl⟩
abbrev main_call5_v6 : Ref sig .tc := ⟨.hbm, 101, rfl⟩
abbrev main_call5_v7 : Ref sig .tc := ⟨.hbm, 102, rfl⟩
abbrev main_call5_v8 : Ref sig .tc := ⟨.hbm, 103, rfl⟩
abbrev main_call5_v9 : Ref sig .tc := ⟨.hbm, 104, rfl⟩
abbrev main_call5_v10 : Ref sig .tc := ⟨.hbm, 105, rfl⟩
abbrev main_call5_v11 : Ref sig .tc := ⟨.hbm, 106, rfl⟩
abbrev main_call5_c_3 : Ref sig .tc := ⟨.hbm, 107, rfl⟩
abbrev main_call5_v12 : Ref sig .tc := ⟨.hbm, 108, rfl⟩
abbrev main_call5_v13 : Ref sig .tc := ⟨.hbm, 109, rfl⟩
abbrev main_call5_c_4 : Ref sig .tc := ⟨.hbm, 110, rfl⟩
abbrev main_call5_v14 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_c_3 : Ref sig .tc := ⟨.hbm, 115, rfl⟩
abbrev main_v32 : Ref sig .tc := ⟨.hbm, 116, rfl⟩
abbrev main_c_4 : Ref sig .tc := ⟨.hbm, 117, rfl⟩
abbrev main_v33 : Ref sig .tc := ⟨.hbm, 118, rfl⟩
abbrev main_v34 : Ref sig .tc := ⟨.hbm, 119, rfl⟩
abbrev main_v35 : Ref sig .tc := ⟨.hbm, 120, rfl⟩
abbrev main_c_5 : Ref sig .tc := ⟨.hbm, 121, rfl⟩
abbrev main_v36 : Ref sig .tc := ⟨.hbm, 122, rfl⟩
abbrev main_v37 : Ref sig .tc := ⟨.hbm, 123, rfl⟩
abbrev main_v38 : Ref sig .tc := ⟨.hbm, 124, rfl⟩
abbrev main_v39 : Ref sig .tc := ⟨.hbm, 125, rfl⟩
abbrev main_cst_6 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩
abbrev main_c_7 : Ref sig .tc := ⟨.hbm, 130, rfl⟩
abbrev main_call6_v0 : Ref sig .tc := ⟨.hbm, 131, rfl⟩
abbrev main_call6_v1 : Ref sig .tc := ⟨.hbm, 132, rfl⟩
abbrev main_v43 : Ref sig .tc := ⟨.hbm, 133, rfl⟩
abbrev main_v44 : Ref sig .tc := ⟨.hbm, 134, rfl⟩
abbrev main_v45 : Ref sig .tc := ⟨.hbm, 135, rfl⟩
abbrev main_v46 : Ref sig .tc := ⟨.hbm, 136, rfl⟩
abbrev main_cst_8 : Ref sig .tc := ⟨.hbm, 137, rfl⟩
abbrev main_call7_v0 : Ref sig .tc := ⟨.hbm, 138, rfl⟩
abbrev main_call7_v1 : Ref sig .tc := ⟨.hbm, 139, rfl⟩
abbrev main_v47 : Ref sig .tc := ⟨.hbm, 140, rfl⟩
abbrev main_cst_9 : Ref sig .tc := ⟨.hbm, 141, rfl⟩
abbrev main_v48 : Ref sig .tc := ⟨.hbm, 142, rfl⟩
abbrev main_cst_10 : Ref sig .tc := ⟨.hbm, 143, rfl⟩
abbrev main_call8_v0 : Ref sig .tc := ⟨.hbm, 144, rfl⟩
abbrev main_call8_v1 : Ref sig .tc := ⟨.hbm, 145, rfl⟩
abbrev main_v49 : Ref sig .tc := ⟨.hbm, 146, rfl⟩

abbrev nD : Nat := 1
abbrev τ : Topo := Topo.v7x

variable {F : FTy → Type} [FloatOps F]
-- ==== Proof.RefRun.lean ====
/- The reference program's run: its 142 host operations as a list, cut in windows, and what every weakly fair run
   leaves in the result buffers, as a term over the launch contents of the arguments. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 142 (window `main_part0`). -/
abbrev ops_part0_0 : List (HloOp τ sig (Elt F)) :=
  [ unary main_arg4 main_v0 ((extractStridedSlice S100000x64 ![0, 0] · slices_S100000x65_S100000x64_0_0) : (⟨S100000x65, .f32⟩ : BufTy).Contents (Elt F) → (⟨S100000x64, .f32⟩ : BufTy).Contents (Elt F)),
    unary main_arg4 main_v1 ((extractStridedSlice S100000x1 ![0, 64] · slices_S100000x65_S100000x1_0_64) : (⟨S100000x65, .f32⟩ : BufTy).Contents (Elt F) → (⟨S100000x1, .f32⟩ : BufTy).Contents (Elt F)),
    reshape main_v1 main_v2 (rfl : (.f32 : EltTy) = .f32) shapeCasts_S100000x1_S100000,
    unary main_v2 main_v3 (fptosi 32 : (⟨S100000, .f32⟩ : BufTy).Contents (Elt F) → (⟨S100000, .i32⟩ : BufTy).Contents (Elt F)),
    unary main_v0 main_v4 ((transpose S64x100000 [1, 0] · transposes_S100000x64_S64x100000_1_0) : (⟨S100000x64, .f32⟩ : BufTy).Contents (Elt F) → (⟨S64x100000, .f32⟩ : BufTy).Contents (Elt F)),
    binary main_arg3 main_v4 main_v5 ((fun l r => Host.dotGeneral dot_S64x64_S64x100000_S64x100000_1_0_0_1_n_n none l r) : (⟨S64x64, .f32⟩ : BufTy).Contents (Elt F) → (⟨S64x100000, .f32⟩ : BufTy).Contents (Elt F) → (⟨S64x100000, .f32⟩ : BufTy).Contents (Elt F)),
    unary main_v5 main_values ((fun x => (Host.topK S64x5 1 (FloatOps.cmpfTotal .gt) x sliceFits_S64x100000_S64x5).1) : (⟨S64x100000, .f32⟩ : BufTy).Contents (Elt F) → (⟨S64x5, .f32⟩ : BufTy).Contents (Elt F)),
    unary main_v5 main_indices ((fun x => (Host.topK S64x5 1 (FloatOps.cmpfTotal .gt) x sliceFits_S64x100000_S64x5).2) : (⟨S64x100000, .f32⟩ : BufTy).Contents (Elt F) → (⟨S64x5, .i32⟩ : BufTy).Contents (Elt F)),
    nullary main_cst (constant S_ .f32 0x3F4CCCCD#32),
    unary main_cst main_v6 (broadcastInDim S64x5 ![] bcast_S_S64x5 : (⟨S_, .f32⟩ : BufTy).Contents (Elt F) → (⟨S64x5, .f32⟩ : BufTy).Contents (Elt F)),
    binary main_values main_v6 main_v7 (cmpf .oge : (⟨S64x5, .f32⟩ : BufTy).Contents (Elt F) → (⟨S64x5, .f32⟩ : BufTy).Contents (Elt F) → (⟨S64x5, .i1⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S64x5, .i32⟩) main_call0_v0) (broadcastInDim S64x5 ![] bcast_S_S64x5),
    TRef.binary (TRef.of (T := ⟨S64x5, .i32⟩) main_indices) (TRef.of (T := ⟨S64x5, .i32⟩) main_call0_v0) (TRef.of (T := ⟨S64x5, .i1⟩) main_call0_v1) (cmpi .slt),
    TRef.nullary (TRef.of (T := ⟨S_, .i32⟩) main_call0_c_0) (constantI S_ 32 100000#32),
    TRef.unary (TRef.of (T := ⟨S_, .i32⟩) main_call0_c_0) (TRef.of (T := ⟨S64x5, .i32⟩) main_call0_v2) (broadcastInDim S64x5 ![] bcast_S_S64x5),
    TRef.binary (TRef.of (T := ⟨S64x5, .i32⟩) main_indices) (TRef.of (T := ⟨S64x5, .i32⟩) main_call0_v2) (TRef.of (T := ⟨S64x5, .i32⟩) main_call0_v3) addi,
    TRef.ternary (TRef.of (T := ⟨S64x5, .i1⟩) main_call0_v1) (TRef.of (T := ⟨S64x5, .i32⟩) main_call0_v3) (TRef.of (T := ⟨S64x5, .i32⟩) main_indices) (TRef.of (T := ⟨S64x5, .i32⟩) main_call0_v4) select,
    TRef.unary (TRef.of (T := ⟨S64x5, .i32⟩) main_call0_v4) (TRef.of (T := ⟨S64x5x1, .i32⟩) main_call0_v5) (broadcastInDim S64x5x1 ![0, 1] bcast_S64x5_S64x5x1_0_1),
    TRef.nullary (TRef.of (T := ⟨S1, .i32⟩) main_call0_c_1) (constantI S1 32 99999#32),
    TRef.nullary (TRef.of (T := ⟨S_, .i32⟩) main_call0_c_2) (constantI S_ 32 0#32),
    TRef.unary (TRef.of (T := ⟨S_, .i32⟩) main_call0_c_2) (TRef.of (T := ⟨S64x5x1, .i32⟩) main_call0_v6) (broadcastInDim S64x5x1 ![] bcast_S_S64x5x1),
    TRef.binary (TRef.of (T := ⟨S64x5x1, .i32⟩) main_call0_v5) (TRef.of (T := ⟨S64x5x1, .i32⟩) main_call0_v6) (TRef.of (T := ⟨S64x5x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S64x5x1, .i32⟩) main_call0_v9) (broadcastInDim S64x5x1 ![0, 1, 2] bcast_S1x1x1_S64x5x1_0_1_2),
    TRef.binary (TRef.of (T := ⟨S64x5x1, .i32⟩) main_call0_v5) (TRef.of (T := ⟨S64x5x1, .i32⟩) main_call0_v9) (TRef.of (T := ⟨S64x5x1, .i1⟩) main_call0_v10) (cmpi .sle),
    TRef.binary (TRef.of (T := ⟨S64x5x1, .i1⟩) main_call0_v7) (TRef.of (T := ⟨S64x5x1, .i1⟩) main_call0_v10) (TRef.of (T := ⟨S64x5x1, .i1⟩) main_call0_v11) andi,
    TRef.nullary (TRef.of (T := ⟨S_, .i1⟩) main_call0_c_3) (constantI S_ 1 1#1),
    TRef.binary (TRef.of (T := ⟨S64x5x1, .i1⟩) main_call0_v11) (TRef.of (T := ⟨S_, .i1⟩) main_call0_c_3) (TRef.of (T := ⟨S64x5, .i1⟩) main_call0_v12) (fun x v => Host.reduce IntOp.andi x v reducesTo_S64x5x1_S64x5_d2 h_S_),
    TRef.binary (TRef.of (T := ⟨S100000, .i32⟩) main_v3) (TRef.of (T := ⟨S64x5x1, .i32⟩) main_call0_v5) (TRef.of (T := ⟨S64x5, .i32⟩) main_call0_v13) (fun x i => Host.gather gather_S100000_S64x5x1_S64x5_n_0_n_n_0_2_1 x i) ]

/-- @main's operations 31 … 60 of 142 (window `main_part0`). -/
abbrev ops_part0_1 : List (HloOp τ sig (Elt F)) :=
  [ TRef.nullary (TRef.of (T := ⟨S_, .i32⟩) main_call0_c_4) (constantI S_ 32 2147483648#32),
    TRef.unary (TRef.of (T := ⟨S_, .i32⟩) main_call0_c_4) (TRef.of (T := ⟨S64x5, .i32⟩) main_call0_v14) (broadcastInDim S64x5 ![] bcast_S_S64x5),
    TRef.ternary (TRef.of (T := ⟨S64x5, .i1⟩) main_call0_v12) (TRef.of (T := ⟨S64x5, .i32⟩) main_call0_v13) (TRef.of (T := ⟨S64x5, .i32⟩) main_call0_v14) (TRef.of (T := ⟨S64x5, .i32⟩) main_v8) select,
    unary main_v8 main_v9 (broadcastInDim S64x5x1 ![0, 1] bcast_S64x5_S64x5x1_0_1 : (⟨S64x5, .i32⟩ : BufTy).Contents (Elt F) → (⟨S64x5x1, .i32⟩ : BufTy).Contents (Elt F)),
    unary main_v8 main_v10 (broadcastInDim S64x1x5 ![0, 2] bcast_S64x5_S64x1x5_0_2 : (⟨S64x5, .i32⟩ : BufTy).Contents (Elt F) → (⟨S64x1x5, .i32⟩ : BufTy).Contents (Elt F)),
    unary main_v9 main_v11 (broadcastInDim S64x5x5 ![0, 1, 2] bcast_S64x5x1_S64x5x5_0_1_2 : (⟨S64x5x1, .i32⟩ : BufTy).Contents (Elt F) → (⟨S64x5x5, .i32⟩ : BufTy).Contents (Elt F)),
    unary main_v10 main_v12 (broadcastInDim S64x5x5 ![0, 1, 2] bcast_S64x1x5_S64x5x5_0_1_2 : (⟨S64x1x5, .i32⟩ : BufTy).Contents (Elt F) → (⟨S64x5x5, .i32⟩ : BufTy).Contents (Elt F)),
    binary main_v11 main_v12 main_v13 (cmpi .eq : (⟨S64x5x5, .i32⟩ : BufTy).Contents (Elt F) → (⟨S64x5x5, .i32⟩ : BufTy).Contents (Elt F) → (⟨S64x5x5, .i1⟩ : BufTy).Contents (Elt F)),
    unary main_v7 main_v14 (broadcastInDim S64x1x5 ![0, 2] bcast_S64x5_S64x1x5_0_2 : (⟨S64x5, .i1⟩ : BufTy).Contents (Elt F) → (⟨S64x1x5, .i1⟩ : BufTy).Contents (Elt F)),
    nullary main_c (constantI S_ 1 0#1),
    TRef.unary (TRef.of (T := ⟨S64x1x5, .i1⟩) main_v14) (TRef.of (T := ⟨S64x5x5, .i1⟩) main_call1_v0) (broadcastInDim S64x5x5 ![0, 1, 2] bcast_S64x1x5_S64x5x5_0_1_2),
    TRef.unary (TRef.of (T := ⟨S_, .i1⟩) main_c) (TRef.of (T := ⟨S64x5x5, .i1⟩) main_call1_v1) (broadcastInDim S64x5x5 ![] bcast_S_S64x5x5),
    TRef.ternary (TRef.of (T := ⟨S64x5x5, .i1⟩) main_call1_v0) (TRef.of (T := ⟨S64x5x5, .i1⟩) main_v13) (TRef.of (T := ⟨S64x5x5, .i1⟩) main_call1_v1) (TRef.of (T := ⟨S64x5x5, .i1⟩) main_v15) select,
    unary main_v15 main_v16 ((extui 32 · natLt_1_32) : (⟨S64x5x5, .i1⟩ : BufTy).Contents (Elt F) → (⟨S64x5x5, .i32⟩ : BufTy).Contents (Elt F)),
    nullary main_c_0 (constantI S_ 32 0#32),
    binary main_v16 main_c_0 main_v17 ((fun x v => Host.reduce IntOp.addi x v reducesTo_S64x5x5_S64x5_d2 h_S_) : (⟨S64x5x5, .i32⟩ : BufTy).Contents (Elt F) → (⟨S_, .i32⟩ : BufTy).Contents (Elt F) → (⟨S64x5, .i32⟩ : BufTy).Contents (Elt F)),
    unary main_v17 main_v18 (sitofp .f32 : (⟨S64x5, .i32⟩ : BufTy).Contents (Elt F) → (⟨S64x5, .f32⟩ : BufTy).Contents (Elt F)),
    nullary main_cst_1 (constant S_ .f32 0x49742400#32),
    unary main_cst_1 main_v19 (broadcastInDim S64x5 ![] bcast_S_S64x5 : (⟨S_, .f32⟩ : BufTy).Contents (Elt F) → (⟨S64x5, .f32⟩ : BufTy).Contents (Elt F)),
    binary main_v18 main_v19 main_v20 (mulf : (⟨S64x5, .f32⟩ : BufTy).Contents (Elt F) → (⟨S64x5, .f32⟩ : BufTy).Contents (Elt F) → (⟨S64x5, .f32⟩ : BufTy).Contents (Elt F)),
    unary main_v8 main_v21 (sitofp .f32 : (⟨S64x5, .i32⟩ : BufTy).Contents (Elt F) → (⟨S64x5, .f32⟩ : BufTy).Contents (Elt F)),
    binary main_v20 main_v21 main_v22 (subf : (⟨S64x5, .f32⟩ : BufTy).Contents (Elt F) → (⟨S64x5, .f32⟩ : BufTy).Contents (Elt F) → (⟨S64x5, .f32⟩ : BufTy).Contents (Elt F)),
    nullary main_cst_2 (constant S_ .f32 0xFF800000#32),
    TRef.unary (TRef.of (T := ⟨S_, .f32⟩) main_cst_2) (TRef.of (T := ⟨S_, .f32⟩) main_call2_v0) id,
    TRef.unary (TRef.of (T := ⟨S_, .f32⟩) main_call2_v0) (TRef.of (T := ⟨S64x5, .f32⟩) main_call2_v1) (broadcastInDim S64x5 ![] bcast_S_S64x5),
    TRef.ternary (TRef.of (T := ⟨S64x5, .i1⟩) main_v7) (TRef.of (T := ⟨S64x5, .f32⟩) main_v22) (TRef.of (T := ⟨S64x5, .f32⟩) main_call2_v1) (TRef.of (T := ⟨S64x5, .f32⟩) main_v23) select,
    TRef.nullary (TRef.of (T := ⟨S64x5, .i32⟩) main_call3_v0) (iotaInDim S64x5 32 1),
    TRef.nullary (TRef.of (T := ⟨S_, .f32⟩) main_call3_cst) (constant S_ .f32 0xFF800000#32),
    TRef.nullary (TRef.of (T := ⟨S_, .i32⟩) main_call3_c) (constantI S_ 32 0#32),
    TRef.quaternary (TRef.of (T := ⟨S64x5, .f32⟩) main_v23) (TRef.of (T := ⟨S64x5, .i32⟩) main_call3_v0) (TRef.of (T := ⟨S_, .f32⟩) main_call3_cst) (TRef.of (T := ⟨S_, .i32⟩) main_call3_c) (TRef.of (T := ⟨S64, .f32⟩) main_call3_v1_0) (fun x y u v j => (Host.argReduce reducer_argmax_f32_i32 x y u v reducesTo_S64x5_S64_d1 h_S_ j).1) ]

/-- @main's operations 61 … 90 of 142 (window `main_part0`). -/
abbrev ops_part0_2 : List (HloOp τ sig (Elt F)) :=
  [ TRef.quaternary (TRef.of (T := ⟨S64x5, .f32⟩) main_v23) (TRef.of (T := ⟨S64x5, .i32⟩) main_call3_v0) (TRef.of (T := ⟨S_, .f32⟩) main_call3_cst) (TRef.of (T := ⟨S_, .i32⟩) main_call3_c) (TRef.of (T := ⟨S64, .i32⟩) main_v24) (fun x y u v j => (Host.argReduce reducer_argmax_f32_i32 x y u v reducesTo_S64x5_S64_d1 h_S_ j).2),
    unary main_v24 main_v25 (broadcastInDim S64x1 ![0] bcast_S64_S64x1_0 : (⟨S64, .i32⟩ : BufTy).Contents (Elt F) → (⟨S64x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S64x1, .i32⟩) main_call4_v0) (broadcastInDim S64x1 ![] bcast_S_S64x1),
    TRef.binary (TRef.of (T := ⟨S64x1, .i32⟩) main_v25) (TRef.of (T := ⟨S64x1, .i32⟩) main_call4_v0) (TRef.of (T := ⟨S64x1, .i1⟩) main_call4_v1) (cmpi .slt),
    TRef.nullary (TRef.of (T := ⟨S_, .i32⟩) main_call4_c_0) (constantI S_ 32 5#32),
    TRef.unary (TRef.of (T := ⟨S_, .i32⟩) main_call4_c_0) (TRef.of (T := ⟨S64x1, .i32⟩) main_call4_v2) (broadcastInDim S64x1 ![] bcast_S_S64x1),
    TRef.binary (TRef.of (T := ⟨S64x1, .i32⟩) main_v25) (TRef.of (T := ⟨S64x1, .i32⟩) main_call4_v2) (TRef.of (T := ⟨S64x1, .i32⟩) main_call4_v3) addi,
    TRef.ternary (TRef.of (T := ⟨S64x1, .i1⟩) main_call4_v1) (TRef.of (T := ⟨S64x1, .i32⟩) main_call4_v3) (TRef.of (T := ⟨S64x1, .i32⟩) main_v25) (TRef.of (T := ⟨S64x1, .i32⟩) main_call4_v4) select,
    TRef.reshape (TRef.of (T := ⟨S64x1, .i32⟩) main_call4_v4) (TRef.of (T := ⟨S64x1x1, .i32⟩) main_call4_v5) (rfl : (.i32 : EltTy) = .i32) shapeCasts_S64x1_S64x1x1,
    TRef.nullary (TRef.of (T := ⟨S1, .i32⟩) main_call4_c_1) (constantI S1 32 4#32),
    TRef.nullary (TRef.of (T := ⟨S_, .i32⟩) main_call4_c_2) (constantI S_ 32 0#32),
    TRef.unary (TRef.of (T := ⟨S_, .i32⟩) main_call4_c_2) (TRef.of (T := ⟨S64x1x1, .i32⟩) main_call4_v6) (broadcastInDim S64x1x1 ![] bcast_S_S64x1x1),
    TRef.binary (TRef.of (T := ⟨S64x1x1, .i32⟩) main_call4_v5) (TRef.of (T := ⟨S64x1x1, .i32⟩) main_call4_v6) (TRef.of (T := ⟨S64x1x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S64x1x1, .i32⟩) main_call4_v9) (broadcastInDim S64x1x1 ![0, 1, 2] bcast_S1x1x1_S64x1x1_0_1_2),
    TRef.binary (TRef.of (T := ⟨S64x1x1, .i32⟩) main_call4_v5) (TRef.of (T := ⟨S64x1x1, .i32⟩) main_call4_v9) (TRef.of (T := ⟨S64x1x1, .i1⟩) main_call4_v10) (cmpi .sle),
    TRef.binary (TRef.of (T := ⟨S64x1x1, .i1⟩) main_call4_v7) (TRef.of (T := ⟨S64x1x1, .i1⟩) main_call4_v10) (TRef.of (T := ⟨S64x1x1, .i1⟩) main_call4_v11) andi,
    TRef.nullary (TRef.of (T := ⟨S_, .i1⟩) main_call4_c_3) (constantI S_ 1 1#1),
    TRef.binary (TRef.of (T := ⟨S64x1x1, .i1⟩) main_call4_v11) (TRef.of (T := ⟨S_, .i1⟩) main_call4_c_3) (TRef.of (T := ⟨S64x1, .i1⟩) main_call4_v12) (fun x v => Host.reduce IntOp.andi x v reducesTo_S64x1x1_S64x1_d2 h_S_),
    TRef.binary (TRef.of (T := ⟨S64x5, .i32⟩) main_v8) (TRef.of (T := ⟨S64x1x1, .i32⟩) main_call4_v5) (TRef.of (T := ⟨S64x1, .i32⟩) main_call4_v13) (fun x i => Host.gather gather_S64x5_S64x1x1_S64x1_n_1_0_0_1_2_11 x i),
    TRef.nullary (TRef.of (T := ⟨S_, .i32⟩) main_call4_c_4) (constantI S_ 32 2147483648#32),
    TRef.unary (TRef.of (T := ⟨S_, .i32⟩) main_call4_c_4) (TRef.of (T := ⟨S64x1, .i32⟩) main_call4_v14) (broadcastInDim S64x1 ![] bcast_S_S64x1),
    TRef.ternary (TRef.of (T := ⟨S64x1, .i1⟩) main_call4_v12) (TRef.of (T := ⟨S64x1, .i32⟩) main_call4_v13) (TRef.of (T := ⟨S64x1, .i32⟩) main_call4_v14) (TRef.of (T := ⟨S64x1, .i32⟩) main_v26) select,
    reshape main_v26 main_v27 (rfl : (.i32 : EltTy) = .i32) shapeCasts_S64x1_S64,
    unary main_v24 main_v28 (broadcastInDim S64x1 ![0] bcast_S64_S64x1_0 : (⟨S64, .i32⟩ : BufTy).Contents (Elt F) → (⟨S64x1, .i32⟩ : BufTy).Contents (Elt F)),
    TRef.nullary (TRef.of (T := ⟨S_, .i32⟩) main_call5_c) (constantI S_ 32 0#32),
    TRef.unary (TRef.of (T := ⟨S_, .i32⟩) main_call5_c) (TRef.of (T := ⟨S64x1, .i32⟩) main_call5_v0) (broadcastInDim S64x1 ![] bcast_S_S64x1),
    TRef.binary (TRef.of (T := ⟨S64x1, .i32⟩) main_v28) (TRef.of (T := ⟨S64x1, .i32⟩) main_call5_v0) (TRef.of (T := ⟨S64x1, .i1⟩) main_call5_v1) (cmpi .slt),
    TRef.nullary (TRef.of (T := ⟨S_, .i32⟩) main_call5_c_0) (constantI S_ 32 5#32) ]

/-- @main's operations 91 … 120 of 142 (window `main_part0`). -/
abbrev ops_part0_3 : List (HloOp τ sig (Elt F)) :=
  [ TRef.unary (TRef.of (T := ⟨S_, .i32⟩) main_call5_c_0) (TRef.of (T := ⟨S64x1, .i32⟩) main_call5_v2) (broadcastInDim S64x1 ![] bcast_S_S64x1),
    TRef.binary (TRef.of (T := ⟨S64x1, .i32⟩) main_v28) (TRef.of (T := ⟨S64x1, .i32⟩) main_call5_v2) (TRef.of (T := ⟨S64x1, .i32⟩) main_call5_v3) addi,
    TRef.ternary (TRef.of (T := ⟨S64x1, .i1⟩) main_call5_v1) (TRef.of (T := ⟨S64x1, .i32⟩) main_call5_v3) (TRef.of (T := ⟨S64x1, .i32⟩) main_v28) (TRef.of (T := ⟨S64x1, .i32⟩) main_call5_v4) select,
    TRef.reshape (TRef.of (T := ⟨S64x1, .i32⟩) main_call5_v4) (TRef.of (T := ⟨S64x1x1, .i32⟩) main_call5_v5) (rfl : (.i32 : EltTy) = .i32) shapeCasts_S64x1_S64x1x1,
    TRef.nullary (TRef.of (T := ⟨S1, .i32⟩) main_call5_c_1) (constantI S1 32 4#32),
    TRef.nullary (TRef.of (T := ⟨S_, .i32⟩) main_call5_c_2) (constantI S_ 32 0#32),
    TRef.unary (TRef.of (T := ⟨S_, .i32⟩) main_call5_c_2) (TRef.of (T := ⟨S64x1x1, .i32⟩) main_call5_v6) (broadcastInDim S64x1x1 ![] bcast_S_S64x1x1),
    TRef.binary (TRef.of (T := ⟨S64x1x1, .i32⟩) main_call5_v5) (TRef.of (T := ⟨S64x1x1, .i32⟩) main_call5_v6) (TRef.of (T := ⟨S64x1x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S64x1x1, .i32⟩) main_call5_v9) (broadcastInDim S64x1x1 ![0, 1, 2] bcast_S1x1x1_S64x1x1_0_1_2),
    TRef.binary (TRef.of (T := ⟨S64x1x1, .i32⟩) main_call5_v5) (TRef.of (T := ⟨S64x1x1, .i32⟩) main_call5_v9) (TRef.of (T := ⟨S64x1x1, .i1⟩) main_call5_v10) (cmpi .sle),
    TRef.binary (TRef.of (T := ⟨S64x1x1, .i1⟩) main_call5_v7) (TRef.of (T := ⟨S64x1x1, .i1⟩) main_call5_v10) (TRef.of (T := ⟨S64x1x1, .i1⟩) main_call5_v11) andi,
    TRef.nullary (TRef.of (T := ⟨S_, .i1⟩) main_call5_c_3) (constantI S_ 1 1#1),
    TRef.binary (TRef.of (T := ⟨S64x1x1, .i1⟩) main_call5_v11) (TRef.of (T := ⟨S_, .i1⟩) main_call5_c_3) (TRef.of (T := ⟨S64x1, .i1⟩) main_call5_v12) (fun x v => Host.reduce IntOp.andi x v reducesTo_S64x1x1_S64x1_d2 h_S_),
    TRef.binary (TRef.of (T := ⟨S64x5, .i32⟩) main_v17) (TRef.of (T := ⟨S64x1x1, .i32⟩) main_call5_v5) (TRef.of (T := ⟨S64x1, .i32⟩) main_call5_v13) (fun x i => Host.gather gather_S64x5_S64x1x1_S64x1_n_1_0_0_1_2_11 x i),
    TRef.nullary (TRef.of (T := ⟨S_, .i32⟩) main_call5_c_4) (constantI S_ 32 2147483648#32),
    TRef.unary (TRef.of (T := ⟨S_, .i32⟩) main_call5_c_4) (TRef.of (T := ⟨S64x1, .i32⟩) main_call5_v14) (broadcastInDim S64x1 ![] bcast_S_S64x1),
    TRef.ternary (TRef.of (T := ⟨S64x1, .i1⟩) main_call5_v12) (TRef.of (T := ⟨S64x1, .i32⟩) main_call5_v13) (TRef.of (T := ⟨S64x1, .i32⟩) main_call5_v14) (TRef.of (T := ⟨S64x1, .i32⟩) main_v29) select,
    reshape main_v29 main_v30 (rfl : (.i32 : EltTy) = .i32) shapeCasts_S64x1_S64,
    unary main_v7 main_v31 ((extui 32 · natLt_1_32) : (⟨S64x5, .i1⟩ : BufTy).Contents (Elt F) → (⟨S64x5, .i32⟩ : BufTy).Contents (Elt F)),
    nullary main_c_3 (constantI S_ 32 0#32),
    binary main_v31 main_c_3 main_v32 ((fun x v => Host.reduce IntOp.addi x v reducesTo_S64x5_S64_d1 h_S_) : (⟨S64x5, .i32⟩ : BufTy).Contents (Elt F) → (⟨S_, .i32⟩ : BufTy).Contents (Elt F) → (⟨S64, .i32⟩ : BufTy).Contents (Elt F)),
    nullary main_c_4 (constantI S_ 32 0#32),
    unary main_c_4 main_v33 (broadcastInDim S64 ![] bcast_S_S64 : (⟨S_, .i32⟩ : BufTy).Contents (Elt F) → (⟨S64, .i32⟩ : BufTy).Contents (Elt F)),
    binary main_v32 main_v33 main_v34 (cmpi .sgt : (⟨S64, .i32⟩ : BufTy).Contents (Elt F) → (⟨S64, .i32⟩ : BufTy).Contents (Elt F) → (⟨S64, .i1⟩ : BufTy).Contents (Elt F)),
    unary main_v30 main_v35 (sitofp .f32 : (⟨S64, .i32⟩ : BufTy).Contents (Elt F) → (⟨S64, .f32⟩ : BufTy).Contents (Elt F)),
    nullary main_c_5 (constantI S_ 32 1#32),
    unary main_c_5 main_v36 (broadcastInDim S64 ![] bcast_S_S64 : (⟨S_, .i32⟩ : BufTy).Contents (Elt F) → (⟨S64, .i32⟩ : BufTy).Contents (Elt F)),
    binary main_v32 main_v36 main_v37 (maxsi : (⟨S64, .i32⟩ : BufTy).Contents (Elt F) → (⟨S64, .i32⟩ : BufTy).Contents (Elt F) → (⟨S64, .i32⟩ : BufTy).Contents (Elt F)),
    unary main_v37 main_v38 (sitofp .f32 : (⟨S64, .i32⟩ : BufTy).Contents (Elt F) → (⟨S64, .f32⟩ : BufTy).Contents (Elt F)) ]

/-- @main's operations 121 … 133 of 142 (window `main_part0`). -/
abbrev ops_part0_4 : List (HloOp τ sig (Elt F)) :=
  [ binary main_v35 main_v38 main_v39 (Host.divf : (⟨S64, .f32⟩ : BufTy).Contents (Elt F) → (⟨S64, .f32⟩ : BufTy).Contents (Elt F) → (⟨S64, .f32⟩ : BufTy).Contents (Elt F)),
    nullary main_cst_6 (constant S_ .f32 0x00000000#32),
    unary main_cst_6 main_v40 (broadcastInDim S64 ![] bcast_S_S64 : (⟨S_, .f32⟩ : BufTy).Contents (Elt F) → (⟨S64, .f32⟩ : BufTy).Contents (Elt F)),
    binary main_v39 main_v40 main_v41 (cmpf .oge : (⟨S64, .f32⟩ : BufTy).Contents (Elt F) → (⟨S64, .f32⟩ : BufTy).Contents (Elt F) → (⟨S64, .i1⟩ : BufTy).Contents (Elt F)),
    binary main_v34 main_v41 main_v42 (andi : (⟨S64, .i1⟩ : BufTy).Contents (Elt F) → (⟨S64, .i1⟩ : BufTy).Contents (Elt F) → (⟨S64, .i1⟩ : BufTy).Contents (Elt F)),
    nullary main_c_7 (constantI S_ 32 4294967295#32),
    TRef.unary (TRef.of (T := ⟨S_, .i32⟩) main_c_7) (TRef.of (T := ⟨S_, .i32⟩) main_call6_v0) id,
    TRef.unary (TRef.of (T := ⟨S_, .i32⟩) main_call6_v0) (TRef.of (T := ⟨S64, .i32⟩) main_call6_v1) (broadcastInDim S64 ![] bcast_S_S64),
    TRef.ternary (TRef.of (T := ⟨S64, .i1⟩) main_v42) (TRef.of (T := ⟨S64, .i32⟩) main_v27) (TRef.of (T := ⟨S64, .i32⟩) main_call6_v1) (TRef.of (T := ⟨S64, .i32⟩) main_v43) select,
    unary main_v27 main_v44 (broadcastInDim S64x1 ![0] bcast_S64_S64x1_0 : (⟨S64, .i32⟩ : BufTy).Contents (Elt F) → (⟨S64x1, .i32⟩ : BufTy).Contents (Elt F)),
    unary main_v44 main_v45 (broadcastInDim S64x5 ![0, 1] bcast_S64x1_S64x5_0_1 : (⟨S64x1, .i32⟩ : BufTy).Contents (Elt F) → (⟨S64x5, .i32⟩ : BufTy).Contents (Elt F)),
    binary main_v8 main_v45 main_v46 (cmpi .eq : (⟨S64x5, .i32⟩ : BufTy).Contents (Elt F) → (⟨S64x5, .i32⟩ : BufTy).Contents (Elt F) → (⟨S64x5, .i1⟩ : BufTy).Contents (Elt F)),
    nullary main_cst_8 (constant S_ .f32 0xFF800000#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3 ++ (ops_part0_4))))

/-- @main's operations 134 … 142 of 142 (window `main_part1`). -/
abbrev ops_part1 : List (HloOp τ sig (Elt F)) :=
  [ TRef.unary (TRef.of (T := ⟨S_, .f32⟩) main_cst_8) (TRef.of (T := ⟨S_, .f32⟩) main_call7_v0) id,
    TRef.unary (TRef.of (T := ⟨S_, .f32⟩) main_call7_v0) (TRef.of (T := ⟨S64x5, .f32⟩) main_call7_v1) (broadcastInDim S64x5 ![] bcast_S_S64x5),
    TRef.ternary (TRef.of (T := ⟨S64x5, .i1⟩) main_v46) (TRef.of (T := ⟨S64x5, .f32⟩) main_values) (TRef.of (T := ⟨S64x5, .f32⟩) main_call7_v1) (TRef.of (T := ⟨S64x5, .f32⟩) main_v47) select,
    nullary main_cst_9 (constant S_ .f32 0xFF800000#32),
    binary main_v47 main_cst_9 main_v48 ((fun x v => Host.reduce FloatOps.maximumf x v reducesTo_S64x5_S64_d1 h_S_) : (⟨S64x5, .f32⟩ : BufTy).Contents (Elt F) → (⟨S_, .f32⟩ : BufTy).Contents (Elt F) → (⟨S64, .f32⟩ : BufTy).Contents (Elt F)),
    nullary main_cst_10 (constant S_ .f32 0x00000000#32),
    TRef.unary (TRef.of (T := ⟨S_, .f32⟩) main_cst_10) (TRef.of (T := ⟨S_, .f32⟩) main_call8_v0) id,
    TRef.unary (TRef.of (T := ⟨S_, .f32⟩) main_call8_v0) (TRef.of (T := ⟨S64, .f32⟩) main_call8_v1) (broadcastInDim S64 ![] bcast_S_S64),
    TRef.ternary (TRef.of (T := ⟨S64, .i1⟩) main_v42) (TRef.of (T := ⟨S64, .f32⟩) main_v48) (TRef.of (T := ⟨S64, .f32⟩) main_call8_v1) (TRef.of (T := ⟨S64, .f32⟩) main_v49) select ]

/-- @main's 142 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., unary_bufs_sub .., ternary_bufs_sub .., unary_bufs_sub .., unary_bufs_sub .., unary_bufs_sub .., unary_bufs_sub .., binary_bufs_sub .., unary_bufs_sub .., nullary_bufs_sub .., unary_bufs_sub .., unary_bufs_sub .., ternary_bufs_sub .., unary_bufs_sub .., nullary_bufs_sub .., binary_bufs_sub .., unary_bufs_sub .., nullary_bufs_sub .., unary_bufs_sub .., binary_bufs_sub .., unary_bufs_sub .., binary_bufs_sub .., nullary_bufs_sub .., unary_bufs_sub .., unary_bufs_sub .., ternary_bufs_sub .., nullary_bufs_sub .., nullary_bufs_sub .., nullary_bufs_sub .., quaternary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨quaternary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., binary_bufs_sub .., nullary_bufs_sub .., unary_bufs_sub .., binary_bufs_sub .., unary_bufs_sub .., nullary_bufs_sub .., unary_bufs_sub .., binary_bufs_sub .., unary_bufs_sub ..⟩
set_option maxRecDepth 8192 in
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_4_sub : (ops_part0_4 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., unary_bufs_sub .., ternary_bufs_sub .., unary_bufs_sub .., unary_bufs_sub .., binary_bufs_sub .., nullary_bufs_sub ..⟩
set_option maxRecDepth 8192 in
theorem ops_part0_4_fresh : (ops_part0_4 : List (HloOp τ sig (Elt F))).Forall fun op => op.fresh = ∅ :=
  ⟨rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨unary_bufs_sub .., unary_bufs_sub .., ternary_bufs_sub .., nullary_bufs_sub .., binary_bufs_sub .., nullary_bufs_sub .., unary_bufs_sub .., unary_bufs_sub .., ternary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part0_4_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part0_4_fresh op h, List.forall_iff_forall_mem.mp ops_part1_fresh op h]

set_option maxRecDepth 8192 in
/-- `main_v5`'s composed term of the arguments (named: it is used 2 times). -/
def res_main_v5 (V0 : Valuation τ sig (Elt F)) : (Proc.devRef .tc main_v5 : DevRef τ sig).ty.Contents (Elt F) :=
  Host.dotGeneral dot_S64x64_S64x100000_S64x100000_1_0_0_1_n_n none (V0 (Proc.devRef .tc main_arg3)) (transpose S64x100000 [1, 0] (extractStridedSlice S100000x64 ![0, 0] (V0 (Proc.devRef .tc main_arg4)) slices_S100000x65_S100000x64_0_0) transposes_S100000x64_S64x100000_1_0)

set_option maxRecDepth 8192 in
/-- `main_values`'s composed term of the arguments (named: it is used 2 times). -/
def res_main_values (V0 : Valuation τ sig (Elt F)) : (Proc.devRef .tc main_values : DevRef τ sig).ty.Contents (Elt F) :=
  (Host.topK S64x5 1 (FloatOps.cmpfTotal .gt) (res_main_v5 V0) sliceFits_S64x100000_S64x5).1

set_option maxRecDepth 8192 in
/-- `main_indices`'s composed term of the arguments (named: it is used 3 times). -/
def res_main_indices (V0 : Valuation τ sig (Elt F)) : (Proc.devRef .tc main_indices : DevRef τ sig).ty.Contents (Elt F) :=
  (Host.topK S64x5 1 (FloatOps.cmpfTotal .gt) (res_main_v5 V0) sliceFits_S64x100000_S64x5).2

set_option maxRecDepth 8192 in
/-- `main_v7`'s composed term of the arguments (named: it is used 3 times). -/
def res_main_v7 (V0 : Valuation τ sig (Elt F)) : (Proc.devRef .tc main_v7 : DevRef τ sig).ty.Contents (Elt F) :=
  cmpf .oge (res_main_values V0) (broadcastInDim S64x5 ![] bcast_S_S64x5 (constant S_ .f32 0x3F4CCCCD#32))

set_option maxRecDepth 8192 in
/-- `main_call0_v5`'s composed term of the arguments (named: it is used 3 times). -/
def res_main_call0_v5 (V0 : Valuation τ sig (Elt F)) : (Proc.devRef .tc main_call0_v5 : DevRef τ sig).ty.Contents (Elt F) :=
  broadcastInDim S64x5x1 ![0, 1] bcast_S64x5_S64x5x1_0_1 (select (cmpi .slt (res_main_indices V0) (broadcastInDim S64x5 ![] bcast_S_S64x5 (constantI S_ 32 0#32))) (addi (res_main_indices V0) (broadcastInDim S64x5 ![] bcast_S_S64x5 (constantI S_ 32 100000#32))) (res_main_indices V0))

set_option maxRecDepth 8192 in
/-- `main_v8`'s composed term of the arguments (named: it is used 5 times). -/
def res_main_v8 (V0 : Valuation τ sig (Elt F)) : (Proc.devRef .tc main_v8 : DevRef τ sig).ty.Contents (Elt F) :=
  select (Host.reduce IntOp.andi (andi (cmpi .sge (res_main_call0_v5 V0) (broadcastInDim S64x5x1 ![] bcast_S_S64x5x1 (constantI S_ 32 0#32))) (cmpi .sle (res_main_call0_v5 V0) (broadcastInDim S64x5x1 ![0, 1, 2] bcast_S1x1x1_S64x5x1_0_1_2 (broadcastInDim S1x1x1 ![2] bcast_S1_S1x1x1_2 (constantI S1 32 99999#32))))) (constantI S_ 1 1#1) reducesTo_S64x5x1_S64x5_d2 h_S_) (Host.gather gather_S100000_S64x5x1_S64x5_n_0_n_n_0_2_1 (fptosi 32 (shapeCast _ (extractStridedSlice S100000x1 ![0, 64] (V0 (Proc.devRef .tc main_arg4)) slices_S100000x65_S100000x1_0_64) shapeCasts_S100000x1_S100000)) (res_main_call0_v5 V0)) (broadcastInDim S64x5 ![] bcast_S_S64x5 (constantI S_ 32 2147483648#32))

set_option maxRecDepth 8192 in
/-- `main_v17`'s composed term of the arguments (named: it is used 2 times). -/
def res_main_v17 (V0 : Valuation τ sig (Elt F)) : (Proc.devRef .tc main_v17 : DevRef τ sig).ty.Contents (Elt F) :=
  Host.reduce IntOp.addi (extui 32 (select (broadcastInDim S64x5x5 ![0, 1, 2] bcast_S64x1x5_S64x5x5_0_1_2 (broadcastInDim S64x1x5 ![0, 2] bcast_S64x5_S64x1x5_0_2 (res_main_v7 V0))) (cmpi .eq (broadcastInDim S64x5x5 ![0, 1, 2] bcast_S64x5x1_S64x5x5_0_1_2 (broadcastInDim S64x5x1 ![0, 1] bcast_S64x5_S64x5x1_0_1 (res_main_v8 V0))) (broadcastInDim S64x5x5 ![0, 1, 2] bcast_S64x1x5_S64x5x5_0_1_2 (broadcastInDim S64x1x5 ![0, 2] bcast_S64x5_S64x1x5_0_2 (res_main_v8 V0)))) (broadcastInDim S64x5x5 ![] bcast_S_S64x5x5 (constantI S_ 1 0#1))) natLt_1_32) (constantI S_ 32 0#32) reducesTo_S64x5x5_S64x5_d2 h_S_

set_option maxRecDepth 8192 in
/-- `main_v23`'s composed term of the arguments (named: it is used 2 times). -/
def res_main_v23 (V0 : Valuation τ sig (Elt F)) : (Proc.devRef .tc main_v23 : DevRef τ sig).ty.Contents (Elt F) :=
  select (res_main_v7 V0) (subf (mulf (sitofp .f32 (res_main_v17 V0)) (broadcastInDim S64x5 ![] bcast_S_S64x5 (constant S_ .f32 0x49742400#32))) (sitofp .f32 (res_main_v8 V0))) (broadcastInDim S64x5 ![] bcast_S_S64x5 (id (constant S_ .f32 0xFF800000#32)))

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  iotaInDim S64x5 32 1

set_option maxRecDepth 8192 in
/-- `main_call3_cst`'s composed term of the arguments (named: it is used 2 times). -/
def res_main_call3_cst (V0 : Valuation τ sig (Elt F)) : (Proc.devRef .tc main_call3_cst : DevRef τ sig).ty.Contents (Elt F) :=
  constant S_ .f32 0xFF800000#32

set_option maxRecDepth 8192 in
/-- `main_call3_c`'s composed term of the arguments (named: it is used 2 times). -/
def res_main_call3_c (V0 : Valuation τ sig (Elt F)) : (Proc.devRef .tc main_call3_c : DevRef τ sig).ty.Contents (Elt F) :=
  constantI S_ 32 0#32

set_option maxRecDepth 8192 in
/-- `main_v24`'s composed term of the arguments (named: it is used 2 times). -/
def res_main_v24 (V0 : Valuation τ sig (Elt F)) : (Proc.devRef .tc main_v24 : DevRef τ sig).ty.Contents (Elt F) :=
  (fun j => (Host.argReduce reducer_argmax_f32_i32 (res_main_v23 V0) (res_main_call3_v0 V0) (res_main_call3_cst V0) (res_main_call3_c V0) reducesTo_S64x5_S64_d1 h_S_ j).2)

set_option maxRecDepth 8192 in
/-- `main_v25`'s composed term of the arguments (named: it is used 3 times). -/
def res_main_v25 (V0 : Valuation τ sig (Elt F)) : (Proc.devRef .tc main_v25 : DevRef τ sig).ty.Contents (Elt F) :=
  broadcastInDim S64x1 ![0] bcast_S64_S64x1_0 (res_main_v24 V0)

set_option maxRecDepth 8192 in
/-- `main_call4_v5`'s composed term of the arguments (named: it is used 3 times). -/
def res_main_call4_v5 (V0 : Valuation τ sig (Elt F)) : (Proc.devRef .tc main_call4_v5 : DevRef τ sig).ty.Contents (Elt F) :=
  shapeCast _ (select (cmpi .slt (res_main_v25 V0) (broadcastInDim S64x1 ![] bcast_S_S64x1 (constantI S_ 32 0#32))) (addi (res_main_v25 V0) (broadcastInDim S64x1 ![] bcast_S_S64x1 (constantI S_ 32 5#32))) (res_main_v25 V0)) shapeCasts_S64x1_S64x1x1

set_option maxRecDepth 8192 in
/-- `main_v27`'s composed term of the arguments (named: it is used 2 times). -/
def res_main_v27 (V0 : Valuation τ sig (Elt F)) : (Proc.devRef .tc main_v27 : DevRef τ sig).ty.Contents (Elt F) :=
  shapeCast _ (select (Host.reduce IntOp.andi (andi (cmpi .sge (res_main_call4_v5 V0) (broadcastInDim S64x1x1 ![] bcast_S_S64x1x1 (constantI S_ 32 0#32))) (cmpi .sle (res_main_call4_v5 V0) (broadcastInDim S64x1x1 ![0, 1, 2] bcast_S1x1x1_S64x1x1_0_1_2 (broadcastInDim S1x1x1 ![2] bcast_S1_S1x1x1_2 (constantI S1 32 4#32))))) (constantI S_ 1 1#1) reducesTo_S64x1x1_S64x1_d2 h_S_) (Host.gather gather_S64x5_S64x1x1_S64x1_n_1_0_0_1_2_11 (res_main_v8 V0) (res_main_call4_v5 V0)) (broadcastInDim S64x1 ![] bcast_S_S64x1 (constantI S_ 32 2147483648#32))) shapeCasts_S64x1_S64

set_option maxRecDepth 8192 in
/-- `main_v28`'s composed term of the arguments (named: it is used 3 times). -/
def res_main_v28 (V0 : Valuation τ sig (Elt F)) : (Proc.devRef .tc main_v28 : DevRef τ sig).ty.Contents (Elt F) :=
  broadcastInDim S64x1 ![0] bcast_S64_S64x1_0 (res_main_v24 V0)

set_option maxRecDepth 8192 in
/-- `main_call5_v5`'s composed term of the arguments (named: it is used 3 times). -/
def res_main_call5_v5 (V0 : Valuation τ sig (Elt F)) : (Proc.devRef .tc main_call5_v5 : DevRef τ sig).ty.Contents (Elt F) :=
  shapeCast _ (select (cmpi .slt (res_main_v28 V0) (broadcastInDim S64x1 ![] bcast_S_S64x1 (constantI S_ 32 0#32))) (addi (res_main_v28 V0) (broadcastInDim S64x1 ![] bcast_S_S64x1 (constantI S_ 32 5#32))) (res_main_v28 V0)) shapeCasts_S64x1_S64x1x1

set_option maxRecDepth 8192 in
/-- `main_v32`'s composed term of the arguments (named: it is used 2 times). -/
def res_main_v32 (V0 : Valuation τ sig (Elt F)) : (Proc.devRef .tc main_v32 : DevRef τ sig).ty.Contents (Elt F) :=
  Host.reduce IntOp.addi (extui 32 (res_main_v7 V0) natLt_1_32) (constantI S_ 32 0#32) reducesTo_S64x5_S64_d1 h_S_

set_option maxRecDepth 8192 in
/-- `main_v42`'s composed term of the arguments (named: it is used 2 times). -/
def res_main_v42 (V0 : Valuation τ sig (Elt F)) : (Proc.devRef .tc main_v42 : DevRef τ sig).ty.Contents (Elt F) :=
  andi (cmpi .sgt (res_main_v32 V0) (broadcastInDim S64 ![] bcast_S_S64 (constantI S_ 32 0#32))) (cmpf .oge (Host.divf (sitofp .f32 (shapeCast _ (select (Host.reduce IntOp.andi (andi (cmpi .sge (res_main_call5_v5 V0) (broadcastInDim S64x1x1 ![] bcast_S_S64x1x1 (constantI S_ 32 0#32))) (cmpi .sle (res_main_call5_v5 V0) (broadcastInDim S64x1x1 ![0, 1, 2] bcast_S1x1x1_S64x1x1_0_1_2 (broadcastInDim S1x1x1 ![2] bcast_S1_S1x1x1_2 (constantI S1 32 4#32))))) (constantI S_ 1 1#1) reducesTo_S64x1x1_S64x1_d2 h_S_) (Host.gather gather_S64x5_S64x1x1_S64x1_n_1_0_0_1_2_11 (res_main_v17 V0) (res_main_call5_v5 V0)) (broadcastInDim S64x1 ![] bcast_S_S64x1 (constantI S_ 32 2147483648#32))) shapeCasts_S64x1_S64)) (sitofp .f32 (maxsi (res_main_v32 V0) (broadcastInDim S64 ![] bcast_S_S64 (constantI S_ 32 1#32)))) : (⟨S64, .f32⟩ : BufTy).Contents (Elt F)) (broadcastInDim S64 ![] bcast_S_S64 (constant S_ .f32 0x00000000#32)))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_values, main_indices, main_cst, main_v6, main_v7, main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
set_option maxRecDepth 8192 in
set_option maxHeartbeats 2000000 in
theorem val0_1_main_values (V0 : Valuation τ sig (Elt F)) : val0_1 V0 (no_index (Proc.devRef .tc main_values)) = res_main_values V0 := by
  unfold val0_1
  simp only [ops_part0_0, TRef.binary, TRef.nullary, TRef.ternary, TRef.unary, TRef.toBuf, TRef.ofBuf, cast_eq]
  after_results_simp
  simp only [val0_main_arg4, val0_main_arg3] <;> rfl
set_option maxRecDepth 8192 in
set_option maxHeartbeats 2000000 in
theorem val0_1_main_v7 (V0 : Valuation τ sig (Elt F)) : val0_1 V0 (no_index (Proc.devRef .tc main_v7)) = res_main_v7 V0 := by
  unfold val0_1
  simp only [ops_part0_0, TRef.binary, TRef.nullary, TRef.ternary, TRef.unary, TRef.toBuf, TRef.ofBuf, cast_eq]
  after_results_simp
  simp only [val0_main_arg4, val0_main_arg3] <;> rfl
set_option maxRecDepth 8192 in
set_option maxHeartbeats 2000000 in
theorem val0_1_main_call0_v12 (V0 : Valuation τ sig (Elt F)) : val0_1 V0 (no_index (Proc.devRef .tc main_call0_v12)) = Host.reduce IntOp.andi (andi (cmpi .sge (res_main_call0_v5 V0) (broadcastInDim S64x5x1 ![] bcast_S_S64x5x1 (constantI S_ 32 0#32))) (cmpi .sle (res_main_call0_v5 V0) (broadcastInDim S64x5x1 ![0, 1, 2] bcast_S1x1x1_S64x5x1_0_1_2 (broadcastInDim S1x1x1 ![2] bcast_S1_S1x1x1_2 (constantI S1 32 99999#32))))) (constantI S_ 1 1#1) reducesTo_S64x5x1_S64x5_d2 h_S_ := by
  unfold val0_1
  simp only [ops_part0_0, TRef.binary, TRef.nullary, TRef.ternary, TRef.unary, TRef.toBuf, TRef.ofBuf, cast_eq]
  after_results_simp
  simp only [val0_main_arg4, val0_main_arg3] <;> rfl
set_option maxRecDepth 8192 in
set_option maxHeartbeats 2000000 in
theorem val0_1_main_call0_v13 (V0 : Valuation τ sig (Elt F)) : val0_1 V0 (no_index (Proc.devRef .tc main_call0_v13)) = Host.gather gather_S100000_S64x5x1_S64x5_n_0_n_n_0_2_1 (fptosi 32 (shapeCast _ (extractStridedSlice S100000x1 ![0, 64] (V0 (Proc.devRef .tc main_arg4)) slices_S100000x65_S100000x1_0_64) shapeCasts_S100000x1_S100000)) (res_main_call0_v5 V0) := by
  unfold val0_1
  simp only [ops_part0_0, TRef.binary, TRef.nullary, TRef.ternary, TRef.unary, TRef.toBuf, TRef.ofBuf, cast_eq]
  after_results_simp
  simp only [val0_main_arg4, val0_main_arg3] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_c_4, main_call0_v14, main_v8, main_v9, main_v10, main_v11, main_v12, main_v13, main_v14, main_c, main_call1_v0, main_call1_v1, main_v15, main_v16, main_c_0, main_v17, main_v18, main_cst_1, main_v19, main_v20, main_v21, main_v22, main_cst_2, main_call2_v0, main_call2_v1, main_v23, main_call3_v0, main_call3_cst, main_call3_c, main_call3_v1_0]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_values (V0 : Valuation τ sig (Elt F)) : val0_2 V0 (no_index (Proc.devRef .tc main_values)) = res_main_values V0 :=
  (val0_2_keep V0 main_values (by decide)).trans (val0_1_main_values V0)
theorem val0_2_main_v7 (V0 : Valuation τ sig (Elt F)) : val0_2 V0 (no_index (Proc.devRef .tc main_v7)) = res_main_v7 V0 :=
  (val0_2_keep V0 main_v7 (by decide)).trans (val0_1_main_v7 V0)
set_option maxRecDepth 8192 in
set_option maxHeartbeats 2000000 in
theorem val0_2_main_v8 (V0 : Valuation τ sig (Elt F)) : val0_2 V0 (no_index (Proc.devRef .tc main_v8)) = res_main_v8 V0 := by
  unfold val0_2
  simp only [ops_part0_1, TRef.nullary, TRef.quaternary, TRef.ternary, TRef.unary, TRef.toBuf, TRef.ofBuf, cast_eq]
  after_results_simp
  simp only [val0_1_main_call0_v13, val0_1_main_call0_v12] <;> rfl
set_option maxRecDepth 8192 in
set_option maxHeartbeats 2000000 in
theorem val0_2_main_v17 (V0 : Valuation τ sig (Elt F)) : val0_2 V0 (no_index (Proc.devRef .tc main_v17)) = res_main_v17 V0 := by
  unfold val0_2
  simp only [ops_part0_1, TRef.nullary, TRef.quaternary, TRef.ternary, TRef.unary, TRef.toBuf, TRef.ofBuf, cast_eq]
  after_results_simp
  simp only [val0_1_main_call0_v13, val0_1_main_call0_v12, val0_1_main_v7] <;> rfl
set_option maxRecDepth 8192 in
set_option maxHeartbeats 2000000 in
theorem val0_2_main_v23 (V0 : Valuation τ sig (Elt F)) : val0_2 V0 (no_index (Proc.devRef .tc main_v23)) = res_main_v23 V0 := by
  unfold val0_2
  simp only [ops_part0_1, TRef.nullary, TRef.quaternary, TRef.ternary, TRef.unary, TRef.toBuf, TRef.ofBuf, cast_eq]
  after_results_simp
  simp only [val0_1_main_call0_v13, val0_1_main_call0_v12, val0_1_main_v7] <;> rfl
set_option maxRecDepth 8192 in
set_option maxHeartbeats 2000000 in
theorem val0_2_main_call3_v0 (V0 : Valuation τ sig (Elt F)) : val0_2 V0 (no_index (Proc.devRef .tc main_call3_v0)) = res_main_call3_v0 V0 := by
  unfold val0_2
  simp only [ops_part0_1, TRef.nullary, TRef.quaternary, TRef.ternary, TRef.unary, TRef.toBuf, TRef.ofBuf, cast_eq]
  after_results_simp
  all_goals rfl
set_option maxRecDepth 8192 in
set_option maxHeartbeats 2000000 in
theorem val0_2_main_call3_cst (V0 : Valuation τ sig (Elt F)) : val0_2 V0 (no_index (Proc.devRef .tc main_call3_cst)) = res_main_call3_cst V0 := by
  unfold val0_2
  simp only [ops_part0_1, TRef.nullary, TRef.quaternary, TRef.ternary, TRef.unary, TRef.toBuf, TRef.ofBuf, cast_eq]
  after_results_simp
  all_goals rfl
set_option maxRecDepth 8192 in
set_option maxHeartbeats 2000000 in
theorem val0_2_main_call3_c (V0 : Valuation τ sig (Elt F)) : val0_2 V0 (no_index (Proc.devRef .tc main_call3_c)) = res_main_call3_c V0 := by
  unfold val0_2
  simp only [ops_part0_1, TRef.nullary, TRef.quaternary, TRef.ternary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v24, main_v25, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_c_4, main_call4_v14, main_v26, main_v27, main_v28, main_call5_c, main_call5_v0, main_call5_v1, main_call5_c_0]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
theorem val0_3_main_arg4 (V0 : Valuation τ sig (Elt F)) : val0_3 V0 (no_index (Proc.devRef .tc main_arg4)) = V0 (Proc.devRef .tc main_arg4) :=
  (val0_3_keep V0 main_arg4 (by decide)).trans (val0_2_main_arg4 V0)
theorem val0_3_main_values (V0 : Valuation τ sig (Elt F)) : val0_3 V0 (no_index (Proc.devRef .tc main_values)) = res_main_values V0 :=
  (val0_3_keep V0 main_values (by decide)).trans (val0_2_main_values V0)
theorem val0_3_main_v7 (V0 : Valuation τ sig (Elt F)) : val0_3 V0 (no_index (Proc.devRef .tc main_v7)) = res_main_v7 V0 :=
  (val0_3_keep V0 main_v7 (by decide)).trans (val0_2_main_v7 V0)
theorem val0_3_main_v8 (V0 : Valuation τ sig (Elt F)) : val0_3 V0 (no_index (Proc.devRef .tc main_v8)) = res_main_v8 V0 :=
  (val0_3_keep V0 main_v8 (by decide)).trans (val0_2_main_v8 V0)
theorem val0_3_main_v17 (V0 : Valuation τ sig (Elt F)) : val0_3 V0 (no_index (Proc.devRef .tc main_v17)) = res_main_v17 V0 :=
  (val0_3_keep V0 main_v17 (by decide)).trans (val0_2_main_v17 V0)
set_option maxRecDepth 8192 in
set_option maxHeartbeats 2000000 in
theorem val0_3_main_v27 (V0 : Valuation τ sig (Elt F)) : val0_3 V0 (no_index (Proc.devRef .tc main_v27)) = res_main_v27 V0 := by
  unfold val0_3
  simp only [ops_part0_2, TRef.binary, TRef.nullary, TRef.quaternary, TRef.reshape, TRef.ternary, TRef.unary, TRef.toBuf, TRef.ofBuf, cast_eq]
  after_results_simp
  simp only [val0_2_main_call3_c, val0_2_main_call3_cst, val0_2_main_call3_v0, val0_2_main_v23, val0_2_main_v8] <;> rfl
set_option maxRecDepth 8192 in
set_option maxHeartbeats 2000000 in
theorem val0_3_main_v28 (V0 : Valuation τ sig (Elt F)) : val0_3 V0 (no_index (Proc.devRef .tc main_v28)) = res_main_v28 V0 := by
  unfold val0_3
  simp only [ops_part0_2, TRef.binary, TRef.nullary, TRef.quaternary, TRef.reshape, TRef.ternary, TRef.unary, TRef.toBuf, TRef.ofBuf, cast_eq]
  after_results_simp
  simp only [val0_2_main_call3_c, val0_2_main_call3_cst, val0_2_main_call3_v0, val0_2_main_v23] <;> rfl
set_option maxRecDepth 8192 in
set_option maxHeartbeats 2000000 in
theorem val0_3_main_call5_v1 (V0 : Valuation τ sig (Elt F)) : val0_3 V0 (no_index (Proc.devRef .tc main_call5_v1)) = cmpi .slt (res_main_v28 V0) (broadcastInDim S64x1 ![] bcast_S_S64x1 (constantI S_ 32 0#32)) := by
  unfold val0_3
  simp only [ops_part0_2, TRef.binary, TRef.nullary, TRef.quaternary, TRef.reshape, TRef.ternary, TRef.unary, TRef.toBuf, TRef.ofBuf, cast_eq]
  after_results_simp
  simp only [val0_2_main_call3_c, val0_2_main_call3_cst, val0_2_main_call3_v0, val0_2_main_v23] <;> rfl
set_option maxRecDepth 8192 in
set_option maxHeartbeats 2000000 in
theorem val0_3_main_call5_c_0 (V0 : Valuation τ sig (Elt F)) : val0_3 V0 (no_index (Proc.devRef .tc main_call5_c_0)) = constantI S_ 32 5#32 := by
  unfold val0_3
  simp only [ops_part0_2, TRef.binary, TRef.nullary, TRef.quaternary, TRef.reshape, TRef.ternary, TRef.unary, TRef.toBuf, TRef.ofBuf, cast_eq]
  after_results_simp
  all_goals rfl

/-- The device's buffer contents after @main's first 120 operations. -/
def val0_4 (V0 : Valuation τ sig (Elt F)) : Valuation τ sig (Elt F) := after ops_part0_3 (val0_3 V0)
/-- The buffers that window `ops_part0_3`'s operations write. -/
abbrev ops_part0_3_W : List (Ref sig .tc) := [main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_c_4, main_call5_v14, main_v29, main_v30, main_v31, main_c_3, main_v32, main_c_4, main_v33, main_v34, main_v35, main_c_5, main_v36, main_v37, main_v38]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val0_4_keep (V0 : Valuation τ sig (Elt F)) (r : Ref sig .tc) (h : r ∉ ops_part0_3_W) :
    val0_4 V0 (Proc.devRef .tc r) = val0_3 V0 (Proc.devRef .tc r) :=
  after_of_writes_sub ops_part0_3 _ ops_part0_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
theorem val0_4_main_arg2 (V0 : Valuation τ sig (Elt F)) : val0_4 V0 (no_index (Proc.devRef .tc main_arg2)) = V0 (Proc.devRef .tc main_arg2) :=
  (val0_4_keep V0 main_arg2 (by decide)).trans (val0_3_main_arg2 V0)
theorem val0_4_main_arg3 (V0 : Valuation τ sig (Elt F)) : val0_4 V0 (no_index (Proc.devRef .tc main_arg3)) = V0 (Proc.devRef .tc main_arg3) :=
  (val0_4_keep V0 main_arg3 (by decide)).trans (val0_3_main_arg3 V0)
theorem val0_4_main_arg4 (V0 : Valuation τ sig (Elt F)) : val0_4 V0 (no_index (Proc.devRef .tc main_arg4)) = V0 (Proc.devRef .tc main_arg4) :=
  (val0_4_keep V0 main_arg4 (by decide)).trans (val0_3_main_arg4 V0)
theorem val0_4_main_values (V0 : Valuation τ sig (Elt F)) : val0_4 V0 (no_index (Proc.devRef .tc main_values)) = res_main_values V0 :=
  (val0_4_keep V0 main_values (by decide)).trans (val0_3_main_values V0)
theorem val0_4_main_v8 (V0 : Valuation τ sig (Elt F)) : val0_4 V0 (no_index (Proc.devRef .tc main_v8)) = res_main_v8 V0 :=
  (val0_4_keep V0 main_v8 (by decide)).trans (val0_3_main_v8 V0)
theorem val0_4_main_v27 (V0 : Valuation τ sig (Elt F)) : val0_4 V0 (no_index (Proc.devRef .tc main_v27)) = res_main_v27 V0 :=
  (val0_4_keep V0 main_v27 (by decide)).trans (val0_3_main_v27 V0)
set_option maxRecDepth 8192 in
set_option maxHeartbeats 2000000 in
theorem val0_4_main_v34 (V0 : Valuation τ sig (Elt F)) : val0_4 V0 (no_index (Proc.devRef .tc main_v34)) = cmpi .sgt (res_main_v32 V0) (broadcastInDim S64 ![] bcast_S_S64 (constantI S_ 32 0#32)) := by
  unfold val0_4
  simp only [ops_part0_3, TRef.binary, TRef.nullary, TRef.reshape, TRef.ternary, TRef.unary, TRef.toBuf, TRef.ofBuf, cast_eq]
  after_results_simp
  simp only [val0_3_main_v7] <;> rfl
set_option maxRecDepth 8192 in
set_option maxHeartbeats 2000000 in
theorem val0_4_main_v35 (V0 : Valuation τ sig (Elt F)) : val0_4 V0 (no_index (Proc.devRef .tc main_v35)) = sitofp .f32 (shapeCast _ (select (Host.reduce IntOp.andi (andi (cmpi .sge (res_main_call5_v5 V0) (broadcastInDim S64x1x1 ![] bcast_S_S64x1x1 (constantI S_ 32 0#32))) (cmpi .sle (res_main_call5_v5 V0) (broadcastInDim S64x1x1 ![0, 1, 2] bcast_S1x1x1_S64x1x1_0_1_2 (broadcastInDim S1x1x1 ![2] bcast_S1_S1x1x1_2 (constantI S1 32 4#32))))) (constantI S_ 1 1#1) reducesTo_S64x1x1_S64x1_d2 h_S_) (Host.gather gather_S64x5_S64x1x1_S64x1_n_1_0_0_1_2_11 (res_main_v17 V0) (res_main_call5_v5 V0)) (broadcastInDim S64x1 ![] bcast_S_S64x1 (constantI S_ 32 2147483648#32))) shapeCasts_S64x1_S64) := by
  unfold val0_4
  simp only [ops_part0_3, TRef.binary, TRef.nullary, TRef.reshape, TRef.ternary, TRef.unary, TRef.toBuf, TRef.ofBuf, cast_eq]
  after_results_simp
  simp only [val0_3_main_v28, val0_3_main_call5_c_0, val0_3_main_call5_v1, val0_3_main_v17] <;> rfl
set_option maxRecDepth 8192 in
set_option maxHeartbeats 2000000 in
theorem val0_4_main_v38 (V0 : Valuation τ sig (Elt F)) : val0_4 V0 (no_index (Proc.devRef .tc main_v38)) = sitofp .f32 (maxsi (res_main_v32 V0) (broadcastInDim S64 ![] bcast_S_S64 (constantI S_ 32 1#32))) := by
  unfold val0_4
  simp only [ops_part0_3, TRef.binary, TRef.nullary, TRef.reshape, TRef.ternary, TRef.unary, TRef.toBuf, TRef.ofBuf, cast_eq]
  after_results_simp
  simp only [val0_3_main_v7] <;> rfl

/-- The device's buffer contents after @main's first 1 window. -/
def val1 (V0 : Valuation τ sig (Elt F)) : Valuation τ sig (Elt F) := after ops_part0_4 (val0_4 V0)
/-- The buffers that window `ops_part0_4`'s operations write. -/
abbrev ops_part0_4_W : List (Ref sig .tc) := [main_v39, main_cst_6, main_v40, main_v41, main_v42, main_c_7, main_call6_v0, main_call6_v1, main_v43, main_v44, main_v45, main_v46, main_cst_8]
set_option maxRecDepth 8192 in
theorem ops_part0_4_writes : (ops_part0_4 : List (HloOp τ sig (Elt F))).Forall fun op => op.writes ⊆ (ops_part0_4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_4` does not write keeps its contents through it. -/
theorem val1_keep (V0 : Valuation τ sig (Elt F)) (r : Ref sig .tc) (h : r ∉ ops_part0_4_W) :
    val1 V0 (Proc.devRef .tc r) = val0_4 V0 (Proc.devRef .tc r) :=
  after_of_writes_sub ops_part0_4 _ ops_part0_4_writes h
theorem val1_main_arg0 (V0 : Valuation τ sig (Elt F)) : val1 V0 (no_index (Proc.devRef .tc main_arg0)) = V0 (Proc.devRef .tc main_arg0) :=
  (val1_keep V0 main_arg0 (by decide)).trans (val0_4_main_arg0 V0)
theorem val1_main_arg1 (V0 : Valuation τ sig (Elt F)) : val1 V0 (no_index (Proc.devRef .tc main_arg1)) = V0 (Proc.devRef .tc main_arg1) :=
  (val1_keep V0 main_arg1 (by decide)).trans (val0_4_main_arg1 V0)
theorem val1_main_arg2 (V0 : Valuation τ sig (Elt F)) : val1 V0 (no_index (Proc.devRef .tc main_arg2)) = V0 (Proc.devRef .tc main_arg2) :=
  (val1_keep V0 main_arg2 (by decide)).trans (val0_4_main_arg2 V0)
theorem val1_main_arg3 (V0 : Valuation τ sig (Elt F)) : val1 V0 (no_index (Proc.devRef .tc main_arg3)) = V0 (Proc.devRef .tc main_arg3) :=
  (val1_keep V0 main_arg3 (by decide)).trans (val0_4_main_arg3 V0)
theorem val1_main_arg4 (V0 : Valuation τ sig (Elt F)) : val1 V0 (no_index (Proc.devRef .tc main_arg4)) = V0 (Proc.devRef .tc main_arg4) :=
  (val1_keep V0 main_arg4 (by decide)).trans (val0_4_main_arg4 V0)
theorem val1_main_values (V0 : Valuation τ sig (Elt F)) : val1 V0 (no_index (Proc.devRef .tc main_values)) = res_main_values V0 :=
  (val1_keep V0 main_values (by decide)).trans (val0_4_main_values V0)
set_option maxRecDepth 8192 in
set_option maxHeartbeats 1300000 in
theorem val1_main_v42 (V0 : Valuation τ sig (Elt F)) : val1 V0 (no_index (Proc.devRef .tc main_v42)) = res_main_v42 V0 := by
  unfold val1
  simp only [ops_part0_4, TRef.ternary, TRef.unary, TRef.toBuf, TRef.ofBuf, cast_eq]
  after_results_simp
  simp only [val0_4_main_v38, val0_4_main_v35, val0_4_main_v34] <;> rfl
set_option maxRecDepth 8192 in
set_option maxHeartbeats 1300000 in
theorem val1_main_v43 (V0 : Valuation τ sig (Elt F)) : val1 V0 (no_index (Proc.devRef .tc main_v43)) = select (res_main_v42 V0) (res_main_v27 V0) (broadcastInDim S64 ![] bcast_S_S64 (id (constantI S_ 32 4294967295#32))) := by
  unfold val1
  simp only [ops_part0_4, TRef.ternary, TRef.unary, TRef.toBuf, TRef.ofBuf, cast_eq]
  after_results_simp
  simp only [val0_4_main_v27, val0_4_main_v38, val0_4_main_v35, val0_4_main_v34] <;> rfl
set_option maxRecDepth 8192 in
set_option maxHeartbeats 1300000 in
theorem val1_main_v46 (V0 : Valuation τ sig (Elt F)) : val1 V0 (no_index (Proc.devRef .tc main_v46)) = cmpi .eq (res_main_v8 V0) (broadcastInDim S64x5 ![0, 1] bcast_S64x1_S64x5_0_1 (broadcastInDim S64x1 ![0] bcast_S64_S64x1_0 (res_main_v27 V0))) := by
  unfold val1
  simp only [ops_part0_4, TRef.ternary, TRef.unary, TRef.toBuf, TRef.ofBuf, cast_eq]
  after_results_simp
  simp only [val0_4_main_v27, val0_4_main_v8] <;> rfl
set_option maxRecDepth 8192 in
set_option maxHeartbeats 1300000 in
theorem val1_main_cst_8 (V0 : Valuation τ sig (Elt F)) : val1 V0 (no_index (Proc.devRef .tc main_cst_8)) = constant S_ .f32 0xFF800000#32 := by
  unfold val1
  simp only [ops_part0_4, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_call7_v0, main_call7_v1, main_v47, main_cst_9, main_v48, main_cst_10, main_call8_v0, main_call8_v1, main_v49]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_v43 (V0 : Valuation τ sig (Elt F)) : val2 V0 (no_index (Proc.devRef .tc main_v43)) = select (res_main_v42 V0) (res_main_v27 V0) (broadcastInDim S64 ![] bcast_S_S64 (id (constantI S_ 32 4294967295#32))) :=
  (val2_keep V0 main_v43 (by decide)).trans (val1_main_v43 V0)
set_option maxRecDepth 8192 in
set_option maxHeartbeats 900000 in
theorem val2_main_v49 (V0 : Valuation τ sig (Elt F)) : val2 V0 (no_index (Proc.devRef .tc main_v49)) = select (res_main_v42 V0) (Host.reduce FloatOps.maximumf (select (cmpi .eq (res_main_v8 V0) (broadcastInDim S64x5 ![0, 1] bcast_S64x1_S64x5_0_1 (broadcastInDim S64x1 ![0] bcast_S64_S64x1_0 (res_main_v27 V0)))) (res_main_values V0) (broadcastInDim S64x5 ![] bcast_S_S64x5 (id (constant S_ .f32 0xFF800000#32)))) (constant S_ .f32 0xFF800000#32) reducesTo_S64x5_S64_d1 h_S_) (broadcastInDim S64 ![] bcast_S_S64 (id (constant S_ .f32 0x00000000#32))) := by
  unfold val2
  simp only [ops_part1, TRef.ternary, TRef.unary, TRef.toBuf, TRef.ofBuf, cast_eq]
  after_results_simp
  simp only [val1_main_cst_8, val1_main_values, val1_main_v46, val1_main_v42] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = (launchContents m c) (Proc.devRef .tc main_arg0)
      ∧ r.2.mem ((c.tc : Thread nD τ).loc main_v49) = select (res_main_v42 (launchContents m c)) (Host.reduce FloatOps.maximumf (select (cmpi .eq (res_main_v8 (launchContents m c)) (broadcastInDim S64x5 ![0, 1] bcast_S64x1_S64x5_0_1 (broadcastInDim S64x1 ![0] bcast_S64_S64x1_0 (res_main_v27 (launchContents m c))))) (res_main_values (launchContents m c)) (broadcastInDim S64x5 ![] bcast_S_S64x5 (id (constant S_ .f32 0xFF800000#32)))) (constant S_ .f32 0xFF800000#32) reducesTo_S64x5_S64_d1 h_S_) (broadcastInDim S64 ![] bcast_S_S64 (id (constant S_ .f32 0x00000000#32)))
      ∧ r.2.mem ((c.tc : Thread nD τ).loc main_v43) = select (res_main_v42 (launchContents m c)) (res_main_v27 (launchContents m c)) (broadcastInDim S64 ![] bcast_S_S64 (id (constantI S_ 32 4294967295#32)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_arg0).trans ((congrFun (after_ops (launchContents m c)) (Proc.devRef .tc main_arg0)).trans (val2_main_arg0 (launchContents m c))),
      (h c main_v49).trans ((congrFun (after_ops (launchContents m c)) (Proc.devRef .tc main_v49)).trans (val2_main_v49 (launchContents m c))),
      (h c main_v43).trans ((congrFun (after_ops (launchContents m c)) (Proc.devRef .tc main_v43)).trans (val2_main_v43 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c))),
      (h c main_arg4).trans ((congrFun (after_ops (launchContents m c)) (Proc.devRef .tc main_arg4)).trans (val2_main_arg4 (launchContents m c)))⟩)
    (run_seq scopedRefs_eq scopedSems_eq defs main (fun _ => ops) main_eq (fun _ => ops_sub) m ρ fun _ => ops_fresh)

end Cert.ReferenceIdeal.Value

end
-- ==== Proof.Frames.lean ====
/-
  The reference's frame: it runs to the end, leaves its arguments as they were, and ends with every semaphore counter at
  zero (its program has no semaphore at all).
-/
module

public import proofs.«01_k».proof.Proof.RefRun
public import Idealize.ShloMosaic.Lib.Quiescent

@[expose] public section

noncomputable section

namespace Cert.ReferenceIdeal.Value

open Idealize.ShloMosaic Idealize.ShloMosaic.TcCoe Idealize.SL.Sem
open Cert.ReferenceIdeal

variable {F : FTy → Type} [FloatOps F]

/-- The reference terminates with unchanged arguments and every semaphore counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono
    (fun r h => ⟨fun c => (h c).2.2.2, sem_eq_zero_of_no_sems (by decide) r.2⟩)
    (run m ρ)

end Cert.ReferenceIdeal.Value

end
-- ==== Proof.Ops.lean ====
/-
  The vector operations of one selection round, read at an index. A matrix has 64 rows and `W` lanes. A round takes each
  row's greatest entry (`top`), finds the first lane holding it (`hot`, one bit), overwrites that lane with -∞ (`knock`)
  and reads another matrix, or a column of the database, at that lane (`sel`, `pull`).
-/
module

public import Idealize.ShloMosaic.PureOps.Ideal.Laws
public import Idealize.ShloMosaic.PureOps.Reduce
public import Idealize.ShloMosaic.Lib.ValueIdx
public import Idealize.ShloMosaic.Lib.Pipeline.Value
public import Idealize.ShloMosaic.Lib.SortNet.Extract

@[expose] public section

noncomputable section

namespace Cert.Rows

open Idealize.ShloMosaic Idealize.ShloMosaic.ValueIdx

/-- A matrix of 64 rows and `W` lanes. -/
abbrev Sh (W : ℕ) : Shape := ⟨2, ![64, W]⟩
/-- One entry per row. -/
abbrev Col : Shape := ⟨1, ![64]⟩

/-! ## Words -/

/-- The word of -∞. -/
theorem ofBits_bot : Ideal.ofBits .f32 0xFF800000#32 = ⊥ := by
  simp [Ideal.ofBits, Ideal.ieee]

/-- The word of 8. -/
theorem ofBits_eight : Ideal.ofBits .f32 0x41000000#32 = ((8 : ℝ) : EReal) := by
  simp [Ideal.ofBits, Ideal.ieee, -EReal.coe_mul]; norm_num

/-- The word of 1/8. -/
theorem ofBits_eighth : Ideal.ofBits .f32 0x3E000000#32 = ((1 / 8 : ℝ) : EReal) := by
  simp [Ideal.ofBits, Ideal.ieee, -EReal.coe_mul]; norm_num

/-- The word of 1. -/
theorem ofBits_one : Ideal.ofBits .f32 0x3F800000#32 = 1 := by
  simp [Ideal.ofBits, Ideal.ieee, -EReal.coe_mul]; norm_num

/-- The word of a million. -/
theorem ofBits_million : Ideal.ofBits .f32 0x49742400#32 = ((1000000 : ℝ) : EReal) := by
  simp [Ideal.ofBits, Ideal.ieee, -EReal.coe_mul]; norm_num

/-- The word of the similarity threshold denotes a real number. -/
theorem ofBits_threshold : ∃ r : ℝ, Ideal.ofBits .f32 0x3F4CCCCD#32 = (r : EReal) := by
  simp only [Ideal.ofBits, Ideal.ieee]
  exact ⟨_, rfl⟩

/-! ## Layout operations at an index -/

variable {W : ℕ} {α : Type}

/-- A column's entries put in a matrix of one lane. -/
theorem cast_apply (x : Col.Idx → α) (hc : Col.ShapeCasts (Sh 1)) (q : Fin 64) :
    shapeCast (Sh 1) x hc (ix2 q 0) = x (ix1 q) :=
  shapeCast_apply x hc _ _ (by
    rw [Shape.rowMajor_val_one, Shape.rowMajor_val_two]; show q.val = q.val * 1 + 0; omega)

/-- A matrix of one lane put along every lane. -/
theorem spread_apply (x : (Sh 1).Idx → α) (hb : (Sh 1).Broadcasts (Sh W)) (q : Fin 64) (l : Fin W) :
    broadcastTo (Sh W) x hb (ix2 q l) = x (ix2 q 0) :=
  broadcastTo_apply x hb _ _ fun a => match a with
    | ⟨0, _⟩ => rfl
    | ⟨1, _⟩ => rfl

/-- The index under result `q` whose lane is `l`. -/
theorem lift_row (hr : (Sh W).Reduces [1] Col) (q : Fin 64) (l : Fin W) : hr.lift (ix1 q) l = ix2 q l :=
  funext fun c => Fin.ext <| match c with
    | ⟨0, _⟩ => rfl
    | ⟨1, _⟩ => rfl

/-- One lane sliced out of eight. -/
theorem lane_apply (o : ℕ) (ho : o < W) (x : (Sh W).Idx → α) (h : (Sh W).Slices ![0, o] (Sh 1)) (q : Fin 64) :
    extractStridedSlice (Sh 1) ![0, o] x h (ix2 q 0) = x (ix2 q ⟨o, ho⟩) :=
  extractStridedSlice_apply _ x h _ _ fun a => match a with
    | ⟨0, _⟩ => by show q.val = 0 + q.val; omega
    | ⟨1, _⟩ => by show o = o + 0; omega

/-! ## Reductions along a row -/

/-- A row's maximum is the supremum of its entries. -/
theorem max_row (hr : (Sh W).Reduces [1] Col) (v : FVec Ideal (Sh W) .f32) (q : Fin 64) :
    multiReduction .maximumf [1] Col v 0xFF800000#32 hr (.inl rfl) rfl (ix1 q)
      = (Finset.univ : Finset (Fin W)).sup fun l => v (ix2 q l) := by
  refine (Ideal.multiReduction_maximumf_single v _ hr (.inl rfl) rfl (ix1 q)).trans ?_
  show (Finset.univ : Finset (Fin W)).fold max (Ideal.ofBits .f32 0xFF800000#32) (v ∘ hr.lift (ix1 q)) = _
  rw [ofBits_bot]
  show (Finset.univ : Finset (Fin W)).fold max ⊥ (v ∘ hr.lift (ix1 q)) = _
  rw [show v ∘ hr.lift (ix1 q) = fun l : Fin W => v (ix2 q l) from funext fun l => congrArg v (lift_row hr q l)]
  rfl

/-- A row's sum. -/
theorem add_row (hr : (Sh W).Reduces [1] Col) (v : FVec Ideal (Sh W) .f32) (q : Fin 64) :
    multiReduction .add [1] Col v 0x00000000#32 hr (.inl rfl) rfl (ix1 q) = ∑ l : Fin W, v (ix2 q l) := by
  refine (Ideal.multiReduction_add_single v _ hr (.inl rfl) rfl (ix1 q)).trans ?_
  exact Finset.sum_congr rfl fun l _ => congrArg v (lift_row hr q l)

/-- A row's least word, as a signed number. -/
theorem min_row (hr : (Sh W).Reduces [1] Col) (u : IVec (Sh W) 32) (q : Fin 64) :
    (multiReductionI .minsi [1] Col u 2147483647#32 hr rfl (ix1 q)).toInt
      = (Finset.univ : Finset (Fin W)).fold min (2147483647 : ℤ) fun l => (u (ix2 q l)).toInt := by
  refine (congrArg BitVec.toInt ((multiReductionI_eq_fold .minsi u _ hr rfl (ix1 q)).trans
    (hr.fold_filter_drop_single _ _ u (ix1 q)))).trans ?_
  show ((Finset.univ : Finset (Fin W)).fold IntOp.minsi 2147483647#32 (u ∘ hr.lift (ix1 q))).toInt = _
  rw [show u ∘ hr.lift (ix1 q) = fun l : Fin W => u (ix2 q l) from funext fun l => congrArg u (lift_row hr q l)]
  exact (Finset.fold_hom (op := IntOp.minsi) (op' := min) (m := BitVec.toInt) (b := 2147483647#32)
    (f := fun l : Fin W => u (ix2 q l)) fun x y => SortNet.toInt_minsi x y).symm

/-- A lane number below 2³¹ as a signed word. -/
theorem toInt_ofNat {n : ℕ} (h : n < 2147483648) : (BitVec.ofNat 32 n).toInt = (n : ℤ) := by
  simp only [BitVec.toInt_eq_toNat_bmod, BitVec.toNat_ofNat, Int.bmod_def]; omega

/-- Of the lanes whose bit is one, the least, the others counted as `W`. -/
theorem first_lane (hr : (Sh W).Reduces [1] Col) (hi : (Sh W).Iotas .tc 32 [1]) (hW : W < 2147483648)
    (b : IVec (Sh W) 1) (q : Fin 64) (p : Fin W) (hp : b (ix2 q p) = 1#1) (hlt : ∀ l < p, b (ix2 q l) ≠ 1#1) :
    multiReductionI .minsi [1] Col (select b (iota .tc (Sh W) 32 [1] hi) (broadcast (Sh W) (BitVec.ofNat 32 W)))
      2147483647#32 hr rfl (ix1 q) = BitVec.ofNat 32 p.val := by
  apply BitVec.eq_of_toInt_eq
  rw [min_row, toInt_ofNat (by have := p.isLt; omega)]
  have hv : ∀ l : Fin W, (select b (iota .tc (Sh W) 32 [1] hi) (broadcast (Sh W) (BitVec.ofNat 32 W)) (ix2 q l)).toInt
      = if b (ix2 q l) = 1#1 then (l.val : ℤ) else (W : ℤ) := by
    intro l
    rw [select_apply, iota_single_apply, broadcast_apply]
    by_cases h : b (ix2 q l) = 1#1
    · rw [if_pos h, h, select_one]
      exact toInt_ofNat (by show l.val < _; have := l.isLt; omega)
    · rw [if_neg h, eq_zero_of_ne_one h, select_zero]
      exact toInt_ofNat hW
  have hp' := p.isLt
  apply le_antisymm
  · refine (Finset.fold_min_le _).2 (.inr ⟨p, Finset.mem_univ p, ?_⟩)
    rw [hv, if_pos hp]
  · refine (Finset.le_fold_min _).2 ⟨by omega, fun l _ => ?_⟩
    rw [hv]
    split
    · next h => exact_mod_cast not_lt.1 fun hl => hlt l hl h
    · omega

/-! ## A round -/

/-- A row's greatest entry, in its first lane. -/
theorem exists_first [NeZero W] (a : Fin W → EReal) :
    ∃ p : Fin W, (∀ l, a l ≤ a p) ∧ (∀ l < p, a l ≠ a p) ∧ Finset.univ.sup a = a p := by
  obtain ⟨m, -, hm⟩ := Finset.exists_max_image Finset.univ a ⟨0, Finset.mem_univ _⟩
  have hne : (Finset.univ.filter fun l => a l = a m).Nonempty := ⟨m, by simp⟩
  refine ⟨(Finset.univ.filter fun l => a l = a m).min' hne, ?_⟩
  have he : a ((Finset.univ.filter fun l => a l = a m).min' hne) = a m :=
    (Finset.mem_filter.1 (Finset.min'_mem _ hne)).2
  rw [he]
  refine ⟨fun l => hm l (Finset.mem_univ _), fun l hl h => ?_, ?_⟩
  · exact absurd (Finset.min'_le _ l (by simp [h])) (not_le.2 hl)
  · exact le_antisymm (Finset.sup_le fun l _ => hm l (Finset.mem_univ _)) (Finset.le_sup (Finset.mem_univ m))

section
variable (hr : (Sh W).Reduces [1] Col) (hc : Col.ShapeCasts (Sh 1)) (hb : (Sh 1).Broadcasts (Sh W))
  (hi : (Sh W).Iotas .tc 32 [1])

/-- Each row's greatest entry. -/
def top (v : FVec Ideal (Sh W) .f32) : FVec Ideal (Sh 1) .f32 :=
  shapeCast (Sh 1) (multiReduction .maximumf [1] Col v 0xFF800000#32 hr (.inl rfl) rfl) hc

/-- The bit of each row's first lane that holds the greatest entry. -/
def hot (v : FVec Ideal (Sh W) .f32) : IVec (Sh W) 1 :=
  cmpi .eq (iota .tc (Sh W) 32 [1] hi)
    (broadcastTo (Sh W)
      (shapeCast (Sh 1)
        (multiReductionI .minsi [1] Col
          (select (cmpf .oeq v (broadcastTo (Sh W) (top hr hc v) hb)) (iota .tc (Sh W) 32 [1] hi)
            (broadcast (Sh W) (BitVec.ofNat 32 W)))
          2147483647#32 hr rfl) hc) hb)

/-- The matrix with that lane overwritten by -∞. -/
def knock (v : FVec Ideal (Sh W) .f32) : FVec Ideal (Sh W) .f32 :=
  select (hot hr hc hb hi v) (broadcast (Sh W) (Scalar.ofBits .f32 0xFF800000#32)) v

/-- Another matrix's entry in that lane. -/
def sel (v x : FVec Ideal (Sh W) .f32) : FVec Ideal (Sh 1) .f32 :=
  shapeCast (Sh 1)
    (multiReduction .add [1] Col (select (hot hr hc hb hi v) x (broadcast (Sh W) (Scalar.ofBits .f32 0x00000000#32)))
      0x00000000#32 hr (.inl rfl) rfl) hc

/-- A round on row `q`: one lane `p` is the first that holds the greatest entry; the round reports that entry, marks
    exactly that lane, and overwrites exactly that lane. -/
theorem round [NeZero W] (hW : W < 2147483648) (v : FVec Ideal (Sh W) .f32) (q : Fin 64) :
    ∃ p : Fin W, (∀ l, v (ix2 q l) ≤ v (ix2 q p)) ∧ (∀ l < p, v (ix2 q l) ≠ v (ix2 q p))
      ∧ top hr hc v (ix2 q 0) = v (ix2 q p)
      ∧ (∀ l, hot hr hc hb hi v (ix2 q l) = if l = p then 1#1 else 0#1)
      ∧ (∀ l, knock hr hc hb hi v (ix2 q l) = if l = p then ⊥ else v (ix2 q l))
      ∧ ∀ x, sel hr hc hb hi v x (ix2 q 0) = x (ix2 q p) := by
  obtain ⟨p, hmax, hfirst, hsup⟩ := exists_first fun l : Fin W => v (ix2 q l)
  have htop : top hr hc v (ix2 q 0) = v (ix2 q p) := by
    unfold top
    rw [cast_apply, max_row, hsup]
  have hbit : ∀ l, cmpf .oeq v (broadcastTo (Sh W) (top hr hc v) hb) (ix2 q l) = 1#1 ↔ v (ix2 q l) = v (ix2 q p) := by
    intro l
    rw [cmpf_apply, spread_apply, htop, Ideal.cmpf_def]
    show BitVec.ofBool (decide (v (ix2 q l) = v (ix2 q p))) = 1#1 ↔ _
    by_cases h : v (ix2 q l) = v (ix2 q p) <;> simp [h]
  have hhot : ∀ l, hot hr hc hb hi v (ix2 q l) = if l = p then 1#1 else 0#1 := by
    intro l
    unfold hot
    show IntOp.cmpi .eq (iota .tc (Sh W) 32 [1] hi (ix2 q l)) (broadcastTo (Sh W) _ hb (ix2 q l)) = _
    rw [spread_apply, cast_apply, first_lane hr hi hW _ q p ((hbit p).2 rfl) (fun l hl h => hfirst l hl ((hbit l).1 h)),
      iota_single_apply]
    show BitVec.ofBool (BitVec.ofNat 32 l.val == BitVec.ofNat 32 p.val) = _
    have hl := l.isLt
    have hp := p.isLt
    by_cases h : l = p
    · subst h; simp
    · rw [if_neg h, show (BitVec.ofNat 32 l.val == BitVec.ofNat 32 p.val) = false from by
        rw [beq_eq_false_iff_ne]
        intro e
        have e' := congrArg BitVec.toInt e
        rw [toInt_ofNat (by omega), toInt_ofNat (by omega)] at e'
        exact h (Fin.ext (by exact_mod_cast e'))]
      rfl
  refine ⟨p, hmax, hfirst, htop, hhot, fun l => ?_, fun x => ?_⟩
  · unfold knock
    rw [select_apply, hhot]
    by_cases h : l = p
    · rw [if_pos h, if_pos h, select_one]; exact ofBits_bot
    · rw [if_neg h, if_neg h, select_zero]
  · unfold sel
    rw [cast_apply, add_row, Finset.sum_eq_single p]
    · rw [select_apply, hhot, if_pos rfl, select_one]
    · intro l _ h
      rw [select_apply, hhot, if_neg h, select_zero]
      exact Ideal.ofBits_zero_f32
    · exact fun h => absurd (Finset.mem_univ _) h

end

end Cert.Rows

end
-- ==== Proof.Body.lean ====
/-
  One grid point of the kernel, as functions of what it reads: the running top five (`rv` values, `ri` ids), the chunk's
  database rows `d` with their ids `e`, and the queries `x`.
-/
module

public import proofs.«01_k».proof.Proof.Ops
public import proofs.«01_k».proof.Proof.Gen.KernelIdeal.Frame
public import Idealize.ShloMosaic.Lib.Tactic

@[expose] public section

set_option maxRecDepth 16384

noncomputable section

namespace Cert.KernelIdeal.Body

open Idealize.ShloMosaic Cert.KernelIdeal Cert.KernelIdeal.Gen
open Cert.KernelIdeal.Facts

/-- A matrix of 64 rows and `W` lanes of extended reals. -/
abbrev Mat (W : ℕ) : Type := FVec Ideal (Rows.Sh W) .f32

/-! ## The rounds over a chunk's 4000 lanes and over the 16 lanes of a merge -/

/-- The greatest entries of a chunk. -/
def top4 (v : Mat 4000) : Mat 1 := Rows.top reduces_S64x4000_S64 shapeCasts_S64_S64x1 v
/-- The marks of their first lanes. -/
def hot4 (v : Mat 4000) : IVec S64x4000 1 :=
  Rows.hot reduces_S64x4000_S64 shapeCasts_S64_S64x1 broadcasts_S64x1_S64x4000 iota_S64x4000_d1_w32 v
/-- The chunk after `k` rounds. -/
def it4 (v : Mat 4000) : ℕ → Mat 4000
  | 0 => v
  | k + 1 => Rows.knock reduces_S64x4000_S64 shapeCasts_S64_S64x1 broadcasts_S64x1_S64x4000 iota_S64x4000_d1_w32 (it4 v k)

/-- The greatest entries of a merge. -/
def top16 (v : Mat 16) : Mat 1 := Rows.top reduces_S64x16_S64 shapeCasts_S64_S64x1 v
/-- Another matrix's entries in their first lanes. -/
def sel16 (v x : Mat 16) : Mat 1 :=
  Rows.sel reduces_S64x16_S64 shapeCasts_S64_S64x1 broadcasts_S64x1_S64x16 iota_S64x16_d1_w32 v x
/-- The merge after `k` rounds. -/
def it16 (v : Mat 16) : ℕ → Mat 16
  | 0 => v
  | k + 1 => Rows.knock reduces_S64x16_S64 shapeCasts_S64_S64x1 broadcasts_S64x1_S64x16 iota_S64x16_d1_w32 (it16 v k)

/-- A column of ids read at the marked lanes: eight times the eighths' whole parts, plus the remainders. -/
def pull (h : IVec S64x4000 1) (e : FVec Ideal S4000x1 .f32) : Mat 1 :=
  addf
    (mulf (broadcast S64x1 (Scalar.ofBits .f32 0x41000000#32))
      (matmul dot_S64x4000_S4000x1_S64x1_1_0_0_1_n_n none (sitofp .f32 (extui 32 h natLt_1_32)) (k0_pay14 e)
        (constant S64x1 .f32 0x00000000#32)))
    (matmul dot_S64x4000_S4000x1_S64x1_1_0_0_1_n_n none (sitofp .f32 (extui 32 h natLt_1_32)) (k0_pay15 e)
      (constant S64x1 .f32 0x00000000#32))

/-- Five columns and three lanes of padding. -/
def stack (a b c d e : Mat 1) (pad : Mat 3) : Mat 8 :=
  concatenate S64x8 1 [⟨S64x1, a⟩, ⟨S64x1, b⟩, ⟨S64x1, c⟩, ⟨S64x1, d⟩, ⟨S64x1, e⟩, ⟨S64x3, pad⟩]
    concatenates_S64x1_S64x1_S64x1_S64x1_S64x1_S64x3_S64x8_d1

/-- Eight lanes beside eight lanes. -/
def beside (a b : Mat 8) : Mat 16 :=
  concatenate S64x16 1 [⟨S64x8, a⟩, ⟨S64x8, b⟩] concatenates_S64x8_S64x8_S64x16_d1

/-- The chunk's similarities. -/
def sims (d : FVec Ideal S4000x64 .f32) (x : FVec Ideal S64x64 .f32) : Mat 4000 := k0_pay16 d x

/-- The chunk's five greatest similarities. -/
def cand (s : Mat 4000) : Mat 8 :=
  stack (top4 (it4 s 0)) (top4 (it4 s 1)) (top4 (it4 s 2)) (top4 (it4 s 3)) (top4 (it4 s 4)) k0_pay17
/-- Their ids. -/
def candI (s : Mat 4000) (e : FVec Ideal S4000x1 .f32) : Mat 8 :=
  stack (pull (hot4 (it4 s 0)) e) (pull (hot4 (it4 s 1)) e) (pull (hot4 (it4 s 2)) e) (pull (hot4 (it4 s 3)) e)
    (pull (hot4 (it4 s 4)) e) k0_pay18

/-- The five greatest of sixteen. -/
def best (v : Mat 16) : Mat 8 :=
  stack (top16 (it16 v 0)) (top16 (it16 v 1)) (top16 (it16 v 2)) (top16 (it16 v 3)) (top16 (it16 v 4)) k0_pay17
/-- Their ids. -/
def bestI (v x : Mat 16) : Mat 8 :=
  stack (sel16 (it16 v 0) x) (sel16 (it16 v 1) x) (sel16 (it16 v 2) x) (sel16 (it16 v 3) x) (sel16 (it16 v 4) x) k0_pay18

/-- The running values after a chunk. -/
def newV (rv : Mat 8) (s : Mat 4000) : Mat 8 := best (beside rv (cand s))
/-- The running ids after a chunk. -/
def newI (rv ri : Mat 8) (s : Mat 4000) (e : FVec Ideal S4000x1 .f32) : Mat 8 :=
  bestI (beside rv (cand s)) (beside ri (candI s e))

/-! ## The last point's outputs -/

/-- Which lanes pass the similarity threshold. -/
def passed (v : Mat 8) : IVec S64x8 1 := k0_pay3 v
/-- How many passing lanes have each lane's id. -/
def votes (v i : Mat 8) : Mat 8 := k0_pay7 (k0_pay4 v i) (k0_pay5 i) (k0_pay6 v) (Scalar.ofBits .f32 0x00000000#32)
/-- Votes first, then the least id. -/
def rank (v i : Mat 8) : Mat 8 :=
  select (passed v) (subf (mulf (votes v i) (broadcast S64x8 (Scalar.ofBits .f32 0x49742400#32))) i)
    (broadcast S64x8 (Scalar.ofBits .f32 0xFF800000#32))
/-- Another matrix's entries in the winning lane. -/
def win (v i x : Mat 8) : Mat 1 :=
  Rows.sel reduces_S64x8_S64 shapeCasts_S64_S64x1 broadcasts_S64x1_S64x8 iota_S64x8_d1_w32 (rank v i) x
/-- Whether a row's vote is accepted. -/
def accepts (v i : Mat 8) : IVec S64x1 1 :=
  andi
    (cmpf .ogt (shapeCast S64x1 (multiReduction .add [1] S64 (sitofp .f32 (extui 32 (passed v) natLt_1_32) : Mat 8) 0x00000000#32 reduces_S64x8_S64 (.inl rfl) rfl) shapeCasts_S64_S64x1)
      (broadcast S64x1 (Scalar.ofBits .f32 0x00000000#32)))
    (cmpf .oge
      (divf (win v i (votes v i))
        (maximumf (shapeCast S64x1 (multiReduction .add [1] S64 (sitofp .f32 (extui 32 (passed v) natLt_1_32) : Mat 8) 0x00000000#32 reduces_S64x8_S64 (.inl rfl) rfl) shapeCasts_S64_S64x1)
          (broadcast S64x1 (Scalar.ofBits .f32 0x3F800000#32))))
      (broadcast S64x1 (Scalar.ofBits .f32 0x00000000#32)))
/-- The scores written out. -/
def outS (v i : Mat 8) : Mat 1 :=
  select (accepts v i)
    (Rows.top reduces_S64x8_S64 shapeCasts_S64_S64x1
      (select (cmpf .oeq i (broadcastTo S64x8 (win v i i) broadcasts_S64x1_S64x8)) v
        (broadcast S64x8 (Scalar.ofBits .f32 0xFF800000#32))))
    (broadcast S64x1 (Scalar.ofBits .f32 0x00000000#32))
/-- The classes written out. -/
def outC (v i : Mat 8) : IVec S64x1 32 :=
  select (accepts v i) (fptosi 32 (win v i i)) (broadcast S64x1 4294967295#32)

end Cert.KernelIdeal.Body

end
-- ==== Proof.Points.lean ====
/-
  What each kind of grid point leaves in the running top five and in the outputs, as the functions of `Body`.
-/
module

public import proofs.«01_k».proof.Proof.Body
public import Idealize.ShloMosaic.Lib.Pipeline.Value

@[expose] public section

set_option maxRecDepth 16384

noncomputable section

namespace Cert.KernelIdeal.Body

open Idealize.ShloMosaic Idealize.ShloMosaic.TcCoe Cert.KernelIdeal Cert.KernelIdeal.Gen

/-- A load from the origin. -/
theorem hz : (![0, 0] : Fin 2 → Nat) = fun _ => 0 := funext fun a => by fin_cases a <;> rfl

/-- The rows' descriptors: the chunk's first 64 columns. -/
def descs (db : Vec Ideal S4000x65 .f32) : FVec Ideal S4000x64 .f32 :=
  View.ld (Val := Elt Ideal) (e' := .f32) db (Rect.unit (s := S4000x65) ![0, 0] S4000x64.size inb_S4000x65_S4000x64_0_0)

/-- The rows' ids: the chunk's last column. -/
def ids (db : Vec Ideal S4000x65 .f32) : FVec Ideal S4000x1 .f32 :=
  View.ld (Val := Elt Ideal) (e' := .f32) db (Rect.unit (s := S4000x65) ![0, 64] S4000x1.size inb_S4000x65_S4000x1_0_64)

/-! ## The printed operations, step by step, as the rounds of `Body` -/

/-- A row's maxima before they are put in a column. -/
def mx4 (v : Mat 4000) : FVec Ideal S64 .f32 :=
  multiReduction .maximumf [1] S64 v 0xFF800000#32 reduces_S64x4000_S64 (.inl rfl) rfl
/-- The lanes' numbers where they hold the maximum, and 4000 elsewhere. -/
def pos4 (v : Mat 4000) : IVec S64x4000 32 :=
  select (cmpf .oeq v (broadcastTo S64x4000 (top4 v) broadcasts_S64x1_S64x4000))
    (iota .tc S64x4000 32 [1] iota_S64x4000_d1_w32) (broadcast S64x4000 4000#32)
/-- Which lanes hold the maximum. -/
def eq16 (v : Mat 16) : IVec S64x16 1 := cmpf .oeq v (broadcastTo S64x16 (top16 v) broadcasts_S64x1_S64x16)
/-- The marks of the first such lanes. -/
def hot16 (v : Mat 16) : IVec S64x16 1 :=
  Rows.hot reduces_S64x16_S64 shapeCasts_S64_S64x1 broadcasts_S64x1_S64x16 iota_S64x16_d1_w32 v

/-- The lanes' numbers. -/
def lanes4000 : IVec S64x4000 32 := iota .tc S64x4000 32 [1] iota_S64x4000_d1_w32
/-- The lanes' numbers, as they come out of rewriting. -/
theorem lanes4000_eq (h) : iota .tc S64x4000 32 (List.cons (α := Fin 2) (1 : Fin S64x4000.rank) []) h = lanes4000 := rfl
/-- The lanes' numbers. -/
def lanes16 : IVec S64x16 32 := iota .tc S64x16 32 [1] iota_S64x16_d1_w32
/-- The lanes' numbers, as they come out of rewriting. -/
theorem lanes16_eq (h) : iota .tc S64x16 32 (List.cons (α := Fin 2) (1 : Fin S64x16.rank) []) h = lanes16 := rfl
/-- The running values before the first chunk: nothing found. -/
def reset : Mat 8 := broadcast S64x8 (Scalar.ofBits .f32 0xFF800000#32)
/-- The running ids before the first chunk. -/
def resetI : Mat 8 := broadcast S64x8 (Scalar.ofBits .f32 0x00000000#32)

section Links
variable (d : FVec Ideal S4000x64 .f32) (x : FVec Ideal S64x64 .f32) (e : FVec Ideal S4000x1 .f32) (v : Mat 4000)
  (u w : Mat 16) (a b c f : Mat 1) (p : Mat 3) (r : Mat 8)

/-- The printed step 19 as rounds. -/
theorem link19 : k0_pay19 d x = top4 (it4 (sims d x) 0) := rfl
/-- The printed step 20 as rounds. -/
theorem link20 : k0_pay20 (F := Ideal) d x = hot4 (it4 (sims d x) 0) := rfl
/-- The printed step 21 as rounds. -/
theorem link21 : k0_pay21 d e x = pull (hot4 (it4 (sims d x) 0)) e := rfl
/-- The printed step 22 as rounds. -/
theorem link22 : k0_pay22 d x = it4 (sims d x) 1 := rfl
/-- The printed step 23 as rounds. -/
theorem link23 : k0_pay23 d x = mx4 (it4 (sims d x) 1) := rfl
/-- The printed step 24 as rounds. -/
theorem link24 : k0_pay24 (mx4 v) = top4 v := rfl
/-- The printed step 26 as rounds. -/
theorem link26 : k0_pay26 (k0_pay14 e) (k0_pay15 e) v lanes4000 (mx4 v)
    = pull (hot4 v) e := rfl
/-- The printed step 28 as rounds. -/
theorem link28 : k0_pay28 v lanes4000 (mx4 v) = top4 (it4 v 1) := rfl
/-- The printed step 30 as rounds. -/
theorem link30 : k0_pay30 (k0_pay14 e) (k0_pay15 e) v lanes4000 (mx4 v)
    = pull (hot4 (it4 v 1)) e := rfl
/-- The printed step 31 as rounds. -/
theorem link31 : k0_pay31 v lanes4000 (mx4 v) = it4 v 2 := rfl
/-- The printed step 32 as rounds. -/
theorem link32 : k0_pay32 v lanes4000 (mx4 v) = top4 (it4 v 2) := rfl
/-- The printed step 33 as rounds. -/
theorem link33 : k0_pay33 v lanes4000 (mx4 v) = pos4 (it4 v 2) := by
  rw [← link31]; rfl
/-- The printed step 37 as rounds. -/
theorem link37 : k0_pay37 p a b c v lanes4000 f (pos4 v) r
    = beside r (stack a b c f (top4 (it4 v 1)) p) := rfl
/-- The printed step 38 as rounds. -/
theorem link38 : k0_pay38 (k0_pay14 e) (k0_pay15 e) p a b c v lanes4000 (pos4 v) r
    = beside r (stack a b c (pull (hot4 v) e) (pull (hot4 (it4 v 1)) e) p) := rfl
/-- The printed step 39 as rounds. -/
theorem link39 : k0_pay39 p a b c v lanes4000 f (pos4 v) r
    = top16 (it16 (beside r (stack a b c f (top4 (it4 v 1)) p)) 0) := rfl
/-- The printed step 40 as rounds. -/
theorem link40 : k0_pay40 p a b c v lanes4000 f (pos4 v) r
    = eq16 (beside r (stack a b c f (top4 (it4 v 1)) p)) := by
  rw [← link37]; rfl
/-- The printed step 43 as rounds. -/
theorem link43 : k0_pay43 w lanes16 (eq16 u) k0_pay41 = sel16 (it16 u 0) w := rfl
/-- The printed step 45 as rounds. -/
theorem link45 : k0_pay45 u lanes16 (eq16 u) k0_pay41 = top16 (it16 u 1) := rfl
/-- The printed step 47 as rounds. -/
theorem link47 : k0_pay47 u w lanes16 (eq16 u) k0_pay41 = sel16 (it16 u 1) w := rfl
/-- The printed step 48 as rounds. -/
theorem link48 : k0_pay48 u lanes16 (eq16 u) k0_pay41 = it16 u 2 := rfl
/-- The printed step 49 as rounds. -/
theorem link49 : k0_pay49 u lanes16 (eq16 u) k0_pay41 = top16 (it16 u 2) := rfl
/-- The printed step 50 as rounds. -/
theorem link50 : k0_pay50 u lanes16 (eq16 u) k0_pay41 = hot16 (it16 u 2) := rfl
/-- The printed step 51 as rounds. -/
theorem link51 : k0_pay51 u w lanes16 (eq16 u) k0_pay41 = sel16 (it16 u 2) w := rfl
/-- The printed step 58 as rounds. -/
theorem link58 : k0_pay58 p a b u c (hot16 u) k0_pay52 = stack a b c (top16 (it16 u 1)) (top16 (it16 u 2)) p := rfl
/-- The printed step 59 as rounds. -/
theorem link59 : k0_pay59 p w a b u (hot16 u) c k0_pay52 = stack a b c (sel16 (it16 u 1) w) (sel16 (it16 u 2) w) p := rfl
/-- The printed step 60 as rounds. -/
theorem link60 : k0_pay60 p a b u c (hot16 u) k0_pay52 = stack a b c (top16 (it16 u 1)) (top16 (it16 u 2)) p :=
  shapeCast_self _ _
/-- The printed step 61 as rounds. -/
theorem link61 : k0_pay61 p w a b u (hot16 u) c k0_pay52 = stack a b c (sel16 (it16 u 1) w) (sel16 (it16 u 2) w) p :=
  shapeCast_self _ _
/-- The printed step 1 as rounds. -/
theorem link1 (i : Mat 8) : k0_pay1
    (k0_pay10 i (k0_pay3 r) (k0_pay4 r i) (k0_pay5 i) (k0_pay6 r) (Scalar.ofBits .f32 0x00000000#32))
    (k0_pay11 r i (k0_pay3 r) (k0_pay4 r i) (k0_pay5 i) (k0_pay6 r) (Scalar.ofBits .f32 0x00000000#32)) = outS r i := rfl
/-- The printed step 2 as rounds. -/
theorem link2 (i : Mat 8) : k0_pay2
    (k0_pay9 i (k0_pay3 r) (k0_pay4 r i) (k0_pay5 i) (k0_pay6 r) (Scalar.ofBits .f32 0x00000000#32))
    (k0_pay10 i (k0_pay3 r) (k0_pay4 r i) (k0_pay5 i) (k0_pay6 r) (Scalar.ofBits .f32 0x00000000#32)) = outC r i := rfl
/-- The first point's running values. -/
theorem link12 : k0_pay12 = reset := shapeCast_self _ _
/-- The first point's running ids. -/
theorem link13 : k0_pay13 = resetI := shapeCast_self _ _
/-- Rounds after rounds are more rounds. -/
theorem it4_one (k : ℕ) : it4 (it4 v 1) k = it4 v (k + 1) := by
  induction k with
  | zero => simp only [it4, Nat.zero_add]
  | succ k ih => rw [it4, ih, Nat.succ_add]; simp only [it4]
/-- Rounds after rounds are more rounds. -/
theorem it4_two (k : ℕ) : it4 (it4 v 2) k = it4 v (k + 2) := by
  induction k with
  | zero => simp only [it4, Nat.zero_add]
  | succ k ih => rw [it4, ih, Nat.succ_add]; simp only [it4]
/-- Rounds after rounds are more rounds. -/
theorem it4_three (k : ℕ) : it4 (it4 v 3) k = it4 v (k + 3) := by
  induction k with
  | zero => simp only [it4, Nat.zero_add]
  | succ k ih => rw [it4, ih, Nat.succ_add]; simp only [it4]
/-- Rounds after rounds are more rounds. -/
theorem it16_two (k : ℕ) : it16 (it16 u 2) k = it16 u (k + 2) := by
  induction k with
  | zero => simp only [it16, Nat.zero_add]
  | succ k ih => rw [it16, ih, Nat.succ_add]; simp only [it16]

end Links

/-- The first point leaves the merge of the empty running values with the chunk. -/
theorem sout0_A_0_eq (c : Dev nD) (i : grid0.Coords) (a1 : Memref sig .tc .vmem S64x64 .f32) (h1 : a1.IsWhole)
    (a2 : Memref sig .tc .vmem S4000x65 .f32) (h2 : a2.IsWhole) (a3 : Memref sig .tc .vmem S64x1 .f32) (h3 : a3.IsWhole)
    (a4 : Memref sig .tc .vmem S64x1 .i32) (h4 : a4.IsWhole) (a5 : Memref sig .tc .vmem S64x8 .f32) (h5 : a5.IsWhole)
    (a6 : Memref sig .tc .vmem S64x8 .f32) (h6 : a6.IsWhole) (hc0 : cond0_0 i) (hc1 : ¬cond0_1 i) (x : Vec Ideal S64x64 .f32) (db : Vec Ideal S4000x65 .f32) :
    sout0_A_0 c i a1 h1 a2 h2 a3 h3 a4 h4 a5 h5 a6 h6 hc0 hc1 x db = newV reset (sims (descs db) x) := by
  unfold sout0_A_0
  rw [View.read_writes_eq_canon _ _ _ (scover0_A_0 c i a1 h1 a2 h2 a3 h3 a4 h4 a5 h5 a6 h6 hc0 hc1 x db)]
  unfold kernelRun0_A
  dsimp only
  sl_unfold_words
  rw [View.canon_cons_unit_zero (S := S64x8) hz]
  simp only [View.readAt_eq_ld, View.readCov_unit_zero (S := S64x8) _ hz, h1.read_unread, h2.read_unread, h5.read_unread, h6.read_unread, View.ld_unit_zero (S := S64x64) hz, View.ld_unit_zero (S := S64x8) hz]
  simp only [lanes4000_eq, lanes16_eq, link19, link21, link22, link23, link24, link26, link28, link30, link31, link32, link33, link37, link38, link39, link40, link43, link45, link47, link48, link49, link50, link51, link58, link59, link60, link61, link1, link2, link12, link13, it4_one, it4_two, it4_three, it16_two, Nat.reduceAdd, View.readCov_unit_zero (S := S64x8) _ hz]
  rfl

/-- The first point leaves the ids of that merge. -/
theorem sout0_A_1_eq (c : Dev nD) (i : grid0.Coords) (a1 : Memref sig .tc .vmem S64x64 .f32) (h1 : a1.IsWhole)
    (a2 : Memref sig .tc .vmem S4000x65 .f32) (h2 : a2.IsWhole) (a3 : Memref sig .tc .vmem S64x1 .f32) (h3 : a3.IsWhole)
    (a4 : Memref sig .tc .vmem S64x1 .i32) (h4 : a4.IsWhole) (a5 : Memref sig .tc .vmem S64x8 .f32) (h5 : a5.IsWhole)
    (a6 : Memref sig .tc .vmem S64x8 .f32) (h6 : a6.IsWhole) (hc0 : cond0_0 i) (hc1 : ¬cond0_1 i) (x : Vec Ideal S64x64 .f32) (db : Vec Ideal S4000x65 .f32) :
    sout0_A_1 c i a1 h1 a2 h2 a3 h3 a4 h4 a5 h5 a6 h6 hc0 hc1 x db = newI reset resetI (sims (descs db) x) (ids db) := by
  unfold sout0_A_1
  rw [View.read_writes_eq_canon _ _ _ (scover0_A_1 c i a1 h1 a2 h2 a3 h3 a4 h4 a5 h5 a6 h6 hc0 hc1 x db)]
  unfold kernelRun0_A
  dsimp only
  sl_unfold_words
  rw [View.canon_cons_unit_zero (S := S64x8) hz]
  simp only [View.readAt_eq_ld, View.readCov_unit_zero (S := S64x8) _ hz, h1.read_unread, h2.read_unread, h5.read_unread, h6.read_unread, View.ld_unit_zero (S := S64x64) hz, View.ld_unit_zero (S := S64x8) hz]
  simp only [lanes4000_eq, lanes16_eq, link19, link21, link22, link23, link24, link26, link28, link30, link31, link32, link33, link37, link38, link39, link40, link43, link45, link47, link48, link49, link50, link51, link58, link59, link60, link61, link1, link2, link12, link13, it4_one, it4_two, it4_three, it16_two, Nat.reduceAdd, View.readCov_unit_zero (S := S64x8) _ hz]
  rfl

/-- A middle point leaves the merged values. -/
theorem sout0_B_0_eq (c : Dev nD) (i : grid0.Coords) (a1 : Memref sig .tc .vmem S64x64 .f32) (h1 : a1.IsWhole)
    (a2 : Memref sig .tc .vmem S4000x65 .f32) (h2 : a2.IsWhole) (a3 : Memref sig .tc .vmem S64x1 .f32) (h3 : a3.IsWhole)
    (a4 : Memref sig .tc .vmem S64x1 .i32) (h4 : a4.IsWhole) (a5 : Memref sig .tc .vmem S64x8 .f32) (h5 : a5.IsWhole)
    (a6 : Memref sig .tc .vmem S64x8 .f32) (h6 : a6.IsWhole) (hc0 : ¬cond0_0 i) (hc1 : ¬cond0_1 i) (x : Vec Ideal S64x64 .f32) (db : Vec Ideal S4000x65 .f32) (rv : Vec Ideal S64x8 .f32) (ri : Vec Ideal S64x8 .f32) :
    sout0_B_0 c i a1 h1 a2 h2 a3 h3 a4 h4 a5 h5 a6 h6 hc0 hc1 x db rv ri = newV rv (sims (descs db) x) := by
  unfold sout0_B_0
  rw [View.read_writes_eq_canon _ _ _ (scover0_B_0 c i a1 h1 a2 h2 a3 h3 a4 h4 a5 h5 a6 h6 hc0 hc1 x db rv ri)]
  unfold kernelRun0_B
  dsimp only
  sl_unfold_words
  rw [View.canon_unit_zero (S := S64x8) hz]
  simp only [View.readAt_eq_ld, View.readCov_unit_zero (S := S64x8) _ hz, h1.read_unread, h2.read_unread, h5.read_unread, h6.read_unread, View.ld_unit_zero (S := S64x64) hz, View.ld_unit_zero (S := S64x8) hz]
  simp only [lanes4000_eq, lanes16_eq, link19, link21, link22, link23, link24, link26, link28, link30, link31, link32, link33, link37, link38, link39, link40, link43, link45, link47, link48, link49, link50, link51, link58, link59, link60, link61, link1, link2, link12, link13, it4_one, it4_two, it4_three, it16_two, Nat.reduceAdd, View.readCov_unit_zero (S := S64x8) _ hz]
  rfl

/-- A middle point leaves the merged ids. -/
theorem sout0_B_1_eq (c : Dev nD) (i : grid0.Coords) (a1 : Memref sig .tc .vmem S64x64 .f32) (h1 : a1.IsWhole)
    (a2 : Memref sig .tc .vmem S4000x65 .f32) (h2 : a2.IsWhole) (a3 : Memref sig .tc .vmem S64x1 .f32) (h3 : a3.IsWhole)
    (a4 : Memref sig .tc .vmem S64x1 .i32) (h4 : a4.IsWhole) (a5 : Memref sig .tc .vmem S64x8 .f32) (h5 : a5.IsWhole)
    (a6 : Memref sig .tc .vmem S64x8 .f32) (h6 : a6.IsWhole) (hc0 : ¬cond0_0 i) (hc1 : ¬cond0_1 i) (x : Vec Ideal S64x64 .f32) (db : Vec Ideal S4000x65 .f32) (rv : Vec Ideal S64x8 .f32) (ri : Vec Ideal S64x8 .f32) :
    sout0_B_1 c i a1 h1 a2 h2 a3 h3 a4 h4 a5 h5 a6 h6 hc0 hc1 x db rv ri = newI rv ri (sims (descs db) x) (ids db) := by
  unfold sout0_B_1
  rw [View.read_writes_eq_canon _ _ _ (scover0_B_1 c i a1 h1 a2 h2 a3 h3 a4 h4 a5 h5 a6 h6 hc0 hc1 x db rv ri)]
  unfold kernelRun0_B
  dsimp only
  sl_unfold_words
  rw [View.canon_unit_zero (S := S64x8) hz]
  simp only [View.readAt_eq_ld, View.readCov_unit_zero (S := S64x8) _ hz, h1.read_unread, h2.read_unread, h5.read_unread, h6.read_unread, View.ld_unit_zero (S := S64x64) hz, View.ld_unit_zero (S := S64x8) hz]
  simp only [lanes4000_eq, lanes16_eq, link19, link21, link22, link23, link24, link26, link28, link30, link31, link32, link33, link37, link38, link39, link40, link43, link45, link47, link48, link49, link50, link51, link58, link59, link60, link61, link1, link2, link12, link13, it4_one, it4_two, it4_three, it16_two, Nat.reduceAdd, View.readCov_unit_zero (S := S64x8) _ hz]
  rfl

/-- The last point leaves the merged values. -/
theorem sout0_C_0_eq (c : Dev nD) (i : grid0.Coords) (a1 : Memref sig .tc .vmem S64x64 .f32) (h1 : a1.IsWhole)
    (a2 : Memref sig .tc .vmem S4000x65 .f32) (h2 : a2.IsWhole) (a3 : Memref sig .tc .vmem S64x1 .f32) (h3 : a3.IsWhole)
    (a4 : Memref sig .tc .vmem S64x1 .i32) (h4 : a4.IsWhole) (a5 : Memref sig .tc .vmem S64x8 .f32) (h5 : a5.IsWhole)
    (a6 : Memref sig .tc .vmem S64x8 .f32) (h6 : a6.IsWhole) (hc0 : ¬cond0_0 i) (hc1 : cond0_1 i) (x : Vec Ideal S64x64 .f32) (db : Vec Ideal S4000x65 .f32) (rv : Vec Ideal S64x8 .f32) (ri : Vec Ideal S64x8 .f32) :
    sout0_C_0 c i a1 h1 a2 h2 a3 h3 a4 h4 a5 h5 a6 h6 hc0 hc1 x db rv ri = newV rv (sims (descs db) x) := by
  unfold sout0_C_0
  rw [View.read_writes_eq_canon _ _ _ (scover0_C_0 c i a1 h1 a2 h2 a3 h3 a4 h4 a5 h5 a6 h6 hc0 hc1 x db rv ri)]
  unfold kernelRun0_C
  dsimp only
  sl_unfold_words
  rw [View.canon_unit_zero (S := S64x8) hz]
  simp only [View.readAt_eq_ld, View.readCov_unit_zero (S := S64x8) _ hz, h1.read_unread, h2.read_unread, h5.read_unread, h6.read_unread, View.ld_unit_zero (S := S64x64) hz, View.ld_unit_zero (S := S64x8) hz]
  simp only [lanes4000_eq, lanes16_eq, link19, link21, link22, link23, link24, link26, link28, link30, link31, link32, link33, link37, link38, link39, link40, link43, link45, link47, link48, link49, link50, link51, link58, link59, link60, link61, link1, link2, link12, link13, it4_one, it4_two, it4_three, it16_two, Nat.reduceAdd, View.readCov_unit_zero (S := S64x8) _ hz]
  rfl

/-- The last point leaves the merged ids. -/
theorem sout0_C_1_eq (c : Dev nD) (i : grid0.Coords) (a1 : Memref sig .tc .vmem S64x64 .f32) (h1 : a1.IsWhole)
    (a2 : Memref sig .tc .vmem S4000x65 .f32) (h2 : a2.IsWhole) (a3 : Memref sig .tc .vmem S64x1 .f32) (h3 : a3.IsWhole)
    (a4 : Memref sig .tc .vmem S64x1 .i32) (h4 : a4.IsWhole) (a5 : Memref sig .tc .vmem S64x8 .f32) (h5 : a5.IsWhole)
    (a6 : Memref sig .tc .vmem S64x8 .f32) (h6 : a6.IsWhole) (hc0 : ¬cond0_0 i) (hc1 : cond0_1 i) (x : Vec Ideal S64x64 .f32) (db : Vec Ideal S4000x65 .f32) (rv : Vec Ideal S64x8 .f32) (ri : Vec Ideal S64x8 .f32) :
    sout0_C_1 c i a1 h1 a2 h2 a3 h3 a4 h4 a5 h5 a6 h6 hc0 hc1 x db rv ri = newI rv ri (sims (descs db) x) (ids db) := by
  unfold sout0_C_1
  rw [View.read_writes_eq_canon _ _ _ (scover0_C_1 c i a1 h1 a2 h2 a3 h3 a4 h4 a5 h5 a6 h6 hc0 hc1 x db rv ri)]
  unfold kernelRun0_C
  dsimp only
  sl_unfold_words
  rw [View.canon_unit_zero (S := S64x8) hz]
  simp only [View.readAt_eq_ld, View.readCov_unit_zero (S := S64x8) _ hz, h1.read_unread, h2.read_unread, h5.read_unread, h6.read_unread, View.ld_unit_zero (S := S64x64) hz, View.ld_unit_zero (S := S64x8) hz]
  simp only [lanes4000_eq, lanes16_eq, link19, link21, link22, link23, link24, link26, link28, link30, link31, link32, link33, link37, link38, link39, link40, link43, link45, link47, link48, link49, link50, link51, link58, link59, link60, link61, link1, link2, link12, link13, it4_one, it4_two, it4_three, it16_two, Nat.reduceAdd, View.readCov_unit_zero (S := S64x8) _ hz]
  rfl

/-- The last point writes the scores of the merge. -/
theorem out0_C_2_eq (c : Dev nD) (i : grid0.Coords) (a1 : Memref sig .tc .vmem S64x64 .f32) (h1 : a1.IsWhole)
    (a2 : Memref sig .tc .vmem S4000x65 .f32) (h2 : a2.IsWhole) (a3 : Memref sig .tc .vmem S64x1 .f32) (h3 : a3.IsWhole)
    (a4 : Memref sig .tc .vmem S64x1 .i32) (h4 : a4.IsWhole) (a5 : Memref sig .tc .vmem S64x8 .f32) (h5 : a5.IsWhole)
    (a6 : Memref sig .tc .vmem S64x8 .f32) (h6 : a6.IsWhole) (hc0 : ¬cond0_0 i) (hc1 : cond0_1 i) (x : Vec Ideal S64x64 .f32) (db : Vec Ideal S4000x65 .f32) (rv : Vec Ideal S64x8 .f32) (ri : Vec Ideal S64x8 .f32) :
    out0_C_2 c i a1 h1 a2 h2 a3 h3 a4 h4 a5 h5 a6 h6 hc0 hc1 x db rv ri = outS (newV rv (sims (descs db) x)) (newI rv ri (sims (descs db) x) (ids db)) := by
  unfold out0_C_2
  rw [View.read_writes_eq_canon _ _ _ (cover0_C_2 c i a1 h1 a2 h2 a3 h3 a4 h4 a5 h5 a6 h6 hc0 hc1 x db rv ri)]
  unfold kernelRun0_C
  dsimp only
  sl_unfold_words
  rw [View.canon_unit_zero (S := S64x1) hz]
  simp only [View.readAt_eq_ld, View.readCov_unit_zero (S := S64x8) _ hz, h1.read_unread, h2.read_unread, h5.read_unread, h6.read_unread, View.ld_unit_zero (S := S64x64) hz, View.ld_unit_zero (S := S64x8) hz]
  simp only [lanes4000_eq, lanes16_eq, link19, link21, link22, link23, link24, link26, link28, link30, link31, link32, link33, link37, link38, link39, link40, link43, link45, link47, link48, link49, link50, link51, link58, link59, link60, link61, link1, link2, link12, link13, it4_one, it4_two, it4_three, it16_two, Nat.reduceAdd, View.readCov_unit_zero (S := S64x8) _ hz]
  rfl

/-- The last point writes the classes of the merge. -/
theorem out0_C_3_eq (c : Dev nD) (i : grid0.Coords) (a1 : Memref sig .tc .vmem S64x64 .f32) (h1 : a1.IsWhole)
    (a2 : Memref sig .tc .vmem S4000x65 .f32) (h2 : a2.IsWhole) (a3 : Memref sig .tc .vmem S64x1 .f32) (h3 : a3.IsWhole)
    (a4 : Memref sig .tc .vmem S64x1 .i32) (h4 : a4.IsWhole) (a5 : Memref sig .tc .vmem S64x8 .f32) (h5 : a5.IsWhole)
    (a6 : Memref sig .tc .vmem S64x8 .f32) (h6 : a6.IsWhole) (hc0 : ¬cond0_0 i) (hc1 : cond0_1 i) (x : Vec Ideal S64x64 .f32) (db : Vec Ideal S4000x65 .f32) (rv : Vec Ideal S64x8 .f32) (ri : Vec Ideal S64x8 .f32) :
    out0_C_3 c i a1 h1 a2 h2 a3 h3 a4 h4 a5 h5 a6 h6 hc0 hc1 x db rv ri = outC (newV rv (sims (descs db) x)) (newI rv ri (sims (descs db) x) (ids db)) := by
  unfold out0_C_3
  rw [View.read_writes_eq_canon _ _ _ (cover0_C_3 c i a1 h1 a2 h2 a3 h3 a4 h4 a5 h5 a6 h6 hc0 hc1 x db rv ri)]
  unfold kernelRun0_C
  dsimp only
  sl_unfold_words
  rw [View.canon_unit_zero (S := S64x1) hz]
  simp only [View.readAt_eq_ld, View.readCov_unit_zero (S := S64x8) _ hz, h1.read_unread, h2.read_unread, h5.read_unread, h6.read_unread, View.ld_unit_zero (S := S64x64) hz, View.ld_unit_zero (S := S64x8) hz]
  simp only [lanes4000_eq, lanes16_eq, link19, link21, link22, link23, link24, link26, link28, link30, link31, link32, link33, link37, link38, link39, link40, link43, link45, link47, link48, link49, link50, link51, link58, link59, link60, link61, link1, link2, link12, link13, it4_one, it4_two, it4_three, it16_two, Nat.reduceAdd, View.readCov_unit_zero (S := S64x8) _ hz]
  rfl

end Cert.KernelIdeal.Body

end
-- ==== Proof.KerRun.lean ====
/-
  The kernel's run at the extended reals: what its two results hold at the end, as the last point's outputs over the chain
  of running values and ids that the 25 chunks leave.
-/
module

public import proofs.«01_k».proof.Proof.Points
public import Idealize.ShloMosaic.Lib.StableHlo.Run

@[expose] public section

set_option maxRecDepth 16384

noncomputable section

open Idealize.ShloMosaic Idealize.ShloMosaic.ValueIdx Idealize.ShloMosaic.TcCoe Idealize.SL.Sem
open Idealize.ShloMosaic.Pipeline (Dat)

namespace Cert.KernelIdeal.Body

open Cert.KernelIdeal Cert.KernelIdeal.Gen

variable (m : (ℓ : Loc nD τ sig) → Buf (Elt Ideal) ℓ) (ρ : Dev nD → PrngReg)

/-- The database rows read at point `n`. -/
def chunk (c : Dev nD) (n : ℕ) (h : n < cfg0.N) : Vec Ideal S4000x65 .f32 := iblk m c 1 ⟨n, h⟩
/-- The queries read at point `n`. -/
def query (c : Dev nD) (n : ℕ) (h : n < cfg0.N) : Vec Ideal S64x64 .f32 := iblk m c 0 ⟨n, h⟩
/-- The similarities of point `n`. -/
def simsAt (c : Dev nD) (n : ℕ) (h : n < cfg0.N) : Mat 4000 := sims (descs (chunk m c n h)) (query m c n h)

/-- The running values and ids after point `n`. -/
def chain (c : Dev nD) : (n : ℕ) → n < cfg0.N → Mat 8 × Mat 8
  | 0, h => (newV reset (simsAt m c 0 h), newI reset resetI (simsAt m c 0 h) (ids (chunk m c 0 h)))
  | n + 1, h => (newV (chain c n (Nat.lt_of_succ_lt h)).1 (simsAt m c (n + 1) h),
      newI (chain c n (Nat.lt_of_succ_lt h)).1 (chain c n (Nat.lt_of_succ_lt h)).2 (simsAt m c (n + 1) h)
        (ids (chunk m c (n + 1) h)))

/-- What the points leave in the two carried buffers is the chain. -/
theorem carried_eq (c : Dev nD) : ∀ (n : ℕ) (h : n < cfg0.N), (outsAt0 m c n h).2.2 = chain m c n h
  | 0, h => by
    rw [outsAt0_A m c ⟨0, h⟩ rfl (by dsimp only; omega)]
    dsimp only
    refine Prod.ext ?_ ?_
    · dsimp only
      exact sout0_A_0_eq ..
    · dsimp only
      exact sout0_A_1_eq ..
  | n + 1, h => by
    have hN : cfg0.N = 25 := N_0
    have h0 : ¬(⟨n + 1, h⟩ : Fin cfg0.N).val % 25 = 0 := by dsimp only; omega
    have ih := carried_eq c n (Nat.lt_of_succ_lt h)
    by_cases h1 : (⟨n + 1, h⟩ : Fin cfg0.N).val % 25 = 24
    · rw [outsAt0_C m c ⟨n + 1, h⟩ h0 h1]
      dsimp only
      refine Prod.ext ?_ ?_
      · dsimp only
        refine (sout0_C_0_eq ..).trans ?_
        show newV (outsAt0 m c n _).2.2.1 _ = newV (chain m c n _).1 _
        rw [ih]; rfl
      · dsimp only
        refine (sout0_C_1_eq ..).trans ?_
        show newI (outsAt0 m c n _).2.2.1 (outsAt0 m c n _).2.2.2 _ _ = newI (chain m c n _).1 (chain m c n _).2 _ _
        rw [ih]; rfl
    · rw [outsAt0_B m c ⟨n + 1, h⟩ h0 h1]
      dsimp only
      refine Prod.ext ?_ ?_
      · dsimp only
        refine (sout0_B_0_eq ..).trans ?_
        show newV (outsAt0 m c n _).2.2.1 _ = newV (chain m c n _).1 _
        rw [ih]; rfl
      · dsimp only
        refine (sout0_B_1_eq ..).trans ?_
        show newI (outsAt0 m c n _).2.2.1 (outsAt0 m c n _).2.2.2 _ _ = newI (chain m c n _).1 (chain m c n _).2 _ _
        rw [ih]; rfl

/-- Point 24 is a point of the grid. -/
theorem last_lt : 24 < cfg0.N := by rw [show cfg0.N = 25 from N_0]; decide

/-- The last point. -/
abbrev last : Fin cfg0.N := ⟨24, last_lt⟩

/-- The running values and ids at the end. -/
def final (c : Dev nD) : Mat 8 × Mat 8 := chain m c 24 last_lt

/-- The scores the last point writes. -/
theorem last_scores (c : Dev nD) : (outsAt0 m c 24 last_lt).1 = outS (final m c).1 (final m c).2 := by
  rw [outsAt0_C m c last (by decide) rfl]
  dsimp only
  refine (out0_C_2_eq ..).trans ?_
  show outS (newV (outsAt0 m c 23 _).2.2.1 _) (newI (outsAt0 m c 23 _).2.2.1 (outsAt0 m c 23 _).2.2.2 _ _) = _
  rw [carried_eq m c 23]; rfl

/-- The classes the last point writes. -/
theorem last_classes (c : Dev nD) : (outsAt0 m c 24 last_lt).2.1 = outC (final m c).1 (final m c).2 := by
  rw [outsAt0_C m c last (by decide) rfl]
  dsimp only
  refine (out0_C_3_eq ..).trans ?_
  show outC (newV (outsAt0 m c 23 _).2.2.1 _) (newI (outsAt0 m c 23 _).2.2.1 (outsAt0 m c 23 _).2.2.2 _ _) = _
  rw [carried_eq m c 23]; rfl

/-- The scores' array after the region. -/
abbrev scores (c : Dev nD) : Buf (Elt Ideal) ((c : Thread nD τ).loc main_call0_v0_0) := outS (final m c).1 (final m c).2
/-- The classes' array after the region. -/
abbrev classes (c : Dev nD) : Buf (Elt Ideal) ((c : Thread nD τ).loc main_call0_v0_1) := outC (final m c).1 (final m c).2

/-- A point whose number is 24 modulo 25 is the last one. -/
theorem eq_last {t : Fin cfg0.N} (h : t.val % 25 = 24) : t = last := by
  have hN : cfg0.N = 25 := N_0
  have := t.isLt
  exact Fin.ext (by show t.val = 24; omega)

/-- The scores written back come from the last point. -/
theorem flushed2_eq (c : Dev nD) (t : Fin cfg0.N) (hf : (cfg0.win 2).flush t = true) :
    (dats m 0 c).flushed 2 t = ((cfg0.win 2).blk t).view.read (Elt Ideal) (scores m c) := by
  obtain rfl := eq_last ((flush0_2 t).mp hf)
  show (cfg0.win 2).cut (grid0.coords last) ((dats m 0 c).after 2 last) = _
  rw [after0_2, last_scores]
  have hz' : (fun a => win0_2.index last a * main_call0_v0_0.ty.shape.size a) = fun _ => 0 := funext fun a => by fin_cases a <;> decide
  exact (Memref.read_access_unit_zero (Elt Ideal) main_call0_v0_0 hz' (fun a => by rw [congrFun hz' a]; simp) (scores m c)).symm

/-- The classes written back come from the last point. -/
theorem flushed3_eq (c : Dev nD) (t : Fin cfg0.N) (hf : (cfg0.win 3).flush t = true) :
    (dats m 0 c).flushed 3 t = ((cfg0.win 3).blk t).view.read (Elt Ideal) (classes m c) := by
  obtain rfl := eq_last ((flush0_3 t).mp hf)
  show (cfg0.win 3).cut (grid0.coords last) ((dats m 0 c).after 3 last) = _
  rw [after0_3, last_classes]
  have hz' : (fun a => win0_3.index last a * main_call0_v0_1.ty.shape.size a) = fun _ => 0 := funext fun a => by fin_cases a <;> decide
  exact (Memref.read_access_unit_zero (Elt Ideal) main_call0_v0_1 hz' (fun a => by rw [congrFun hz' a]; simp) (classes m c)).symm

/-- After the launch the scores' array holds what the last point wrote. -/
theorem final2 (c : Dev nD) : (dats m 0 c).arrAt 2 cfg0.N = scores m c :=
  (dats m 0 c).arrAt_eq_of_cover 2 (scores m c) (flushed2_eq m c) fun i =>
    ⟨last, (flush0_2 last).mpr rfl, by
      show i ∈ ((View.whole main_call0_v0_0).slice (win0_2.rect last)).set
      rw [View.set_slice_whole, Rect.mem_set_unit]
      intro a
      have h0 : (i 0 : Nat) < 64 := (i 0).isLt
      have h1 : (i 1 : Nat) < 1 := (i 1).isLt
      match a with
      | ⟨0, _⟩ => show win0_2.index last 0 * win0_2.size 0 ≤ (i 0 : Nat) ∧ (i 0 : Nat) < win0_2.index last 0 * win0_2.size 0 + win0_2.xsize (grid0.coords last) 0
                  rw [show win0_2.index last 0 * win0_2.size 0 = 0 from by decide +kernel, show win0_2.xsize (grid0.coords last) 0 = 64 from by decide +kernel]; omega
      | ⟨1, _⟩ => show win0_2.index last 1 * win0_2.size 1 ≤ (i 1 : Nat) ∧ (i 1 : Nat) < win0_2.index last 1 * win0_2.size 1 + win0_2.xsize (grid0.coords last) 1
                  rw [show win0_2.index last 1 * win0_2.size 1 = 0 from by decide +kernel, show win0_2.xsize (grid0.coords last) 1 = 1 from by decide +kernel]; omega⟩

/-- After the launch the classes' array holds what the last point wrote. -/
theorem final3 (c : Dev nD) : (dats m 0 c).arrAt 3 cfg0.N = classes m c :=
  (dats m 0 c).arrAt_eq_of_cover 3 (classes m c) (flushed3_eq m c) fun i =>
    ⟨last, (flush0_3 last).mpr rfl, by
      show i ∈ ((View.whole main_call0_v0_1).slice (win0_3.rect last)).set
      rw [View.set_slice_whole, Rect.mem_set_unit]
      intro a
      have h0 : (i 0 : Nat) < 64 := (i 0).isLt
      have h1 : (i 1 : Nat) < 1 := (i 1).isLt
      match a with
      | ⟨0, _⟩ => show win0_3.index last 0 * win0_3.size 0 ≤ (i 0 : Nat) ∧ (i 0 : Nat) < win0_3.index last 0 * win0_3.size 0 + win0_3.xsize (grid0.coords last) 0
                  rw [show win0_3.index last 0 * win0_3.size 0 = 0 from by decide +kernel, show win0_3.xsize (grid0.coords last) 0 = 64 from by decide +kernel]; omega
      | ⟨1, _⟩ => show win0_3.index last 1 * win0_3.size 1 ≤ (i 1 : Nat) ∧ (i 1 : Nat) < win0_3.index last 1 * win0_3.size 1 + win0_3.xsize (grid0.coords last) 1
                  rw [show win0_3.index last 1 * win0_3.size 1 = 0 from by decide +kernel, show win0_3.xsize (grid0.coords last) 1 = 1 from by decide +kernel]; omega⟩

/-- The first result: the scores in a row. -/
theorem tail0 (c : Dev nD) : Pipeline.afterTail₀ cfgs (dats m) 0 (V0 m) [hostOps1] c main_v0_0
    = (shapeCast S64 (scores m c) shapeCasts_S64x1_S64 : Vec Ideal S64 .f32) := by
  unfold Pipeline.afterTail₀
  have e : [hostOps1 (F := Ideal)].flatten = hostOps1 := by simp
  rw [e, StableHlo.after_cons, StableHlo.after_cons, StableHlo.after_nil]
  rw [StableHlo.reshape_result_ne' (h := by decide), StableHlo.reshape_result']
  funext i
  exact congrArg (fun z : Vec Ideal S64x1 .f32 => shapeCast S64 z shapeCasts_S64x1_S64 i)
    ((Pipeline.withArrays_arr spec0 (by decide) c (V0 m c) _ (2 : Fin 4)).trans (final2 m c))

/-- The second result: the classes in a row. -/
theorem tail1 (c : Dev nD) : Pipeline.afterTail₀ cfgs (dats m) 0 (V0 m) [hostOps1] c main_v0_1
    = (shapeCast S64 (classes m c) shapeCasts_S64x1_S64 : Vec Ideal S64 .i32) := by
  unfold Pipeline.afterTail₀
  have e : [hostOps1 (F := Ideal)].flatten = hostOps1 := by simp
  rw [e, StableHlo.after_cons, StableHlo.after_cons, StableHlo.after_nil]
  rw [StableHlo.reshape_result', StableHlo.reshape_result_ne' (h := by decide)]
  funext i
  exact congrArg (fun z : Vec Ideal S64x1 .i32 => shapeCast S64 z shapeCasts_S64x1_S64 i)
    ((Pipeline.withArrays_arr spec0 (by decide) c (V0 m c) _ (3 : Fin 4)).trans (final3 m c))

/-- The run: both results, and the arguments unchanged. -/
theorem run : θ_run defs (onTc (τ := τ) (main (F := Ideal))) ⟨m, fun _ => 0, ρ⟩ fun r => ∀ c : Dev nD,
      r.2.mem ((c.tc : Thread nD τ).loc main_v0_0) = (shapeCast S64 (scores m c) shapeCasts_S64x1_S64 : Vec Ideal S64 .f32)
      ∧ r.2.mem ((c.tc : Thread nD τ).loc main_v0_1) = (shapeCast S64 (classes m c) shapeCasts_S64x1_S64 : Vec Ideal S64 .i32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h.1 c |>.2 main_v0_0 (Pipeline.mem_restRefs_of main_v0_0 (by decide) (by decide))).trans (tail0 m c),
     (h.1 c |>.2 main_v0_1 (Pipeline.mem_restRefs_of main_v0_1 (by decide) (by decide))).trans (tail1 m c), h.2 c⟩)
    (θ_run_and (run_main m ρ) (unchanged m ρ))

/-! ## The blocks the points read -/

/-- Every point reads all queries. -/
theorem query_apply (c : Dev nD) (n : ℕ) (h : n < cfg0.N) (q k : Fin 64) :
    query m c n h (ix2 q k) = (m ((c.tc : Thread nD τ).loc main_arg3) : Vec Ideal S64x64 .f32) (ix2 q k) := by
  unfold query iblk
  rw [View.read_apply]
  show V m c main_arg3 _ = m (c.tc.loc main_arg3) _
  unfold V
  congr 1
  funext a
  apply Fin.ext
  match a with
  | ⟨0, _⟩ => show 0 * 64 + 1 * q.val = q.val; omega
  | ⟨1, _⟩ => show 0 * 64 + 1 * k.val = k.val; omega

/-- Point `n` reads rows `4000 n … 4000 n + 3999` of the database. -/
theorem chunk_apply (c : Dev nD) (n : ℕ) (h : n < cfg0.N) (l : Fin 4000) (k : Fin 65) (l' : Fin 100000)
    (hl : l'.val = 4000 * n + l.val) :
    chunk m c n h (ix2 l k) = (m ((c.tc : Thread nD τ).loc main_arg4) : Vec Ideal S100000x65 .f32) (ix2 l' k) := by
  have hi : win0_1.index ⟨n, h⟩ 0 = n ∧ win0_1.index ⟨n, h⟩ 1 = 0 := by
    have h25 : n < 25 := Nat.lt_of_lt_of_eq h N_0
    have e0 : (grid0.coords ⟨n, h⟩ 0).val = n / 1 % 25 := Pipeline.Grid.coords_val ⟨n, h⟩ 0 (by decide) rfl
    have e1 : (grid0.coords ⟨n, h⟩ 0).val = n := by rw [e0]; omega
    refine ⟨?_, rfl⟩
    show (BitVec.ofNat 32 (grid0.coords ⟨n, h⟩ 0).val).toNat = n
    rw [e1, BitVec.toNat_ofNat]
    omega
  unfold chunk iblk
  rw [View.read_apply]
  show V m c main_arg4 _ = m (c.tc.loc main_arg4) _
  unfold V
  congr 1
  funext a
  apply Fin.ext
  match a with
  | ⟨0, _⟩ => show win0_1.index ⟨n, h⟩ 0 * 4000 + 1 * l.val = l'.val; rw [hi.1]; omega
  | ⟨1, _⟩ => show win0_1.index ⟨n, h⟩ 1 * 65 + 1 * k.val = k.val; rw [hi.2]; omega

end Cert.KernelIdeal.Body

end
-- ==== Proof.Pick.lean ====
/- The greatest entries of a row, in order, as a finite set of (value, position) keys loses its least key again and
   again. A key is less when its value is greater, or the values are equal and its position is less. -/
module

public import Mathlib.Data.EReal.Basic
public import Mathlib.Data.Prod.Lex
public import Mathlib.Data.Finset.Max
public import Mathlib.Data.Fintype.Basic
public import Mathlib.Order.Fin.Basic

@[expose] public section

namespace Cert.Pick

/-- A value with its position, the greatest value first and, of equal values, the least position first. -/
abbrev Key : Type := ERealᵒᵈ ×ₗ ℕ

/-- The key of value `v` at position `n`. -/
def key (v : EReal) (n : ℕ) : Key := toLex (OrderDual.toDual v, n)

/-- One key is before another exactly when its value is greater, or the values agree and its position is less. -/
theorem key_lt {v w : EReal} {n k : ℕ} : key v n < key w k ↔ w < v ∨ (v = w ∧ n < k) := by
  unfold key
  rw [Prod.Lex.toLex_lt_toLex]
  simp [OrderDual.toDual_lt_toDual]

/-- Keys are equal exactly when both parts are. -/
theorem key_inj {v w : EReal} {n k : ℕ} : key v n = key w k ↔ v = w ∧ n = k := by
  unfold key
  simp [Prod.ext_iff]

/-- The least key of a set, if the set has one. -/
noncomputable def least (C : Finset Key) : Option Key :=
  if h : C.Nonempty then some (C.min' h) else none

/-- The set without its least key. -/
noncomputable def rest (C : Finset Key) : Finset Key :=
  if h : C.Nonempty then C.erase (C.min' h) else ∅

/-- The key of rank `j` in a set: the least one after `j` least ones are gone. -/
noncomputable def pick : ℕ → Finset Key → Option Key
  | 0, C => least C
  | j + 1, C => pick j (rest C)

/-- The empty set has no least key. -/
theorem least_empty : least ∅ = none := by simp [least]

/-- A member below every member is the least key. -/
theorem least_eq {C : Finset Key} {a : Key} (ha : a ∈ C) (hle : ∀ b ∈ C, a ≤ b) : least C = some a := by
  have hne : C.Nonempty := ⟨a, ha⟩
  simp only [least, hne, dite_true]
  exact congrArg some (le_antisymm (C.min'_le a ha) (hle _ (C.min'_mem hne)))

/-- Taking a member below every member out of a set leaves its rest. -/
theorem rest_eq {C : Finset Key} {a : Key} (ha : a ∈ C) (hle : ∀ b ∈ C, a ≤ b) : rest C = C.erase a := by
  have hne : C.Nonempty := ⟨a, ha⟩
  simp only [rest, hne, dite_true]
  rw [le_antisymm (C.min'_le a ha) (hle _ (C.min'_mem hne))]

/-- Nothing rests of the empty set. -/
theorem rest_empty : rest ∅ = ∅ := by simp [rest]

/-- A set is empty, or one of its members is below all of them. -/
theorem empty_or_least (C : Finset Key) : C = ∅ ∨ ∃ a ∈ C, ∀ b ∈ C, a ≤ b := by
  rcases C.eq_empty_or_nonempty with h | h
  · exact .inl h
  · exact .inr ⟨C.min' h, C.min'_mem h, fun b hb => C.min'_le b hb⟩

/-- The empty set has no key of any rank. -/
theorem pick_empty (j : ℕ) : pick j ∅ = none := by
  induction j with
  | zero => exact least_empty
  | succ j ih => rw [pick, rest_empty, ih]

/-- The rest lies in the set. -/
theorem rest_subset (C : Finset Key) : rest C ⊆ C := by
  rcases empty_or_least C with rfl | ⟨a, ha, hle⟩
  · rw [rest_empty]
  · rw [rest_eq ha hle]; exact C.erase_subset a

/-- A picked key is a member. -/
theorem mem_of_pick {j : ℕ} {C : Finset Key} {x : Key} (h : pick j C = some x) : x ∈ C := by
  induction j generalizing C with
  | zero =>
    rcases empty_or_least C with rfl | ⟨a, ha, hle⟩
    · rw [pick, least_empty] at h; exact absurd h (by simp)
    · rw [pick, least_eq ha hle] at h; exact Option.some.inj h ▸ ha
  | succ j ih => exact rest_subset C (ih h)

/-- The keys picked at two ranks ascend with the ranks. -/
theorem pick_lt {i j : ℕ} (hij : i < j) {C : Finset Key} {x y : Key} (hx : pick i C = some x)
    (hy : pick j C = some y) : x < y := by
  induction i generalizing j C with
  | zero =>
    obtain ⟨j, rfl⟩ : ∃ k, j = k + 1 := ⟨j - 1, by omega⟩
    rcases empty_or_least C with rfl | ⟨a, ha, hle⟩
    · rw [pick_empty] at hx; exact absurd hx (by simp)
    · rw [pick, least_eq ha hle] at hx
      obtain rfl := Option.some.inj hx
      rw [pick, rest_eq ha hle] at hy
      have hm := mem_of_pick hy
      rw [Finset.mem_erase] at hm
      exact lt_of_le_of_ne (hle _ hm.2) (Ne.symm hm.1)
  | succ i ih =>
    obtain ⟨j, rfl⟩ : ∃ k, j = k + 1 := ⟨j - 1, by omega⟩
    exact ih (by omega) hx hy

/-- A part of a set that holds all of the set's keys of rank below `k` has the same keys at those ranks. -/
theorem pick_of_between {k : ℕ} {C T : Finset Key} (hT : T ⊆ C)
    (hall : ∀ j < k, ∀ x, pick j C = some x → x ∈ T) : ∀ j < k, pick j T = pick j C := by
  induction k generalizing C T with
  | zero => intro j hj; omega
  | succ k ih =>
    rcases empty_or_least C with rfl | ⟨a, ha, hle⟩
    · intro j _; rw [Finset.subset_empty.mp hT]
    · have haT : a ∈ T := hall 0 (by omega) a (least_eq ha hle)
      have hleT : ∀ b ∈ T, a ≤ b := fun b hb => hle b (hT hb)
      intro j hj
      cases j with
      | zero => rw [pick, pick, least_eq ha hle, least_eq haT hleT]
      | succ j =>
        rw [pick, pick, rest_eq ha hle, rest_eq haT hleT]
        refine ih (Finset.erase_subset_erase a hT) (fun i hi x hx => ?_) j (by omega)
        have hm := mem_of_pick hx
        rw [Finset.mem_erase] at hm ⊢
        exact ⟨hm.1, hall (i + 1) (by omega) x (by rw [pick, rest_eq ha hle]; exact hx)⟩

/-- A key of rank `j` in a union has rank at most `j` in one of the two sets. -/
theorem pick_union {j : ℕ} {A B : Finset Key} {x : Key} (h : pick j (A ∪ B) = some x) :
    (∃ i ≤ j, pick i A = some x) ∨ ∃ i ≤ j, pick i B = some x := by
  induction j generalizing A B with
  | zero =>
    rcases empty_or_least (A ∪ B) with h0 | ⟨a, ha, hle⟩
    · rw [h0, pick_empty] at h; exact absurd h (by simp)
    · rw [pick, least_eq ha hle] at h
      obtain rfl := Option.some.inj h
      rcases Finset.mem_union.mp ha with hA | hB
      · exact .inl ⟨0, le_rfl, least_eq hA fun b hb => hle b (Finset.mem_union_left _ hb)⟩
      · exact .inr ⟨0, le_rfl, least_eq hB fun b hb => hle b (Finset.mem_union_right _ hb)⟩
  | succ j ih =>
    rcases empty_or_least (A ∪ B) with h0 | ⟨a, ha, hle⟩
    · rw [h0, pick_empty] at h; exact absurd h (by simp)
    · rw [pick, rest_eq ha hle, Finset.erase_union_distrib] at h
      have back : ∀ S : Finset Key, (∀ b ∈ S, a ≤ b) → ∀ i ≤ j, pick i (S.erase a) = some x →
          ∃ i ≤ j + 1, pick i S = some x := by
        intro S hS i hi hx
        by_cases haS : a ∈ S
        · exact ⟨i + 1, by omega, by rw [pick, rest_eq haS hS]; exact hx⟩
        · exact ⟨i, by omega, by rwa [Finset.erase_eq_of_notMem haS] at hx⟩
      rcases ih h with ⟨i, hi, hx⟩ | ⟨i, hi, hx⟩
      · exact .inl (back A (fun b hb => hle b (Finset.mem_union_left _ hb)) i hi hx)
      · exact .inr (back B (fun b hb => hle b (Finset.mem_union_right _ hb)) i hi hx)

/-! ## Lanes -/

variable {W : ℕ}

/-- The keys of the lanes whose value is not −∞, lane `l` standing for position `n l`. -/
noncomputable def live (a : Fin W → EReal) (n : Fin W → ℕ) : Finset Key :=
  (Finset.univ.filter fun l => a l ≠ ⊥).image fun l => key (a l) (n l)

/-- Membership among the live keys. -/
theorem mem_live {a : Fin W → EReal} {n : Fin W → ℕ} {x : Key} :
    x ∈ live a n ↔ ∃ l, a l ≠ ⊥ ∧ key (a l) (n l) = x := by
  simp [live]

/-- Of two lanes with one live value, the later lane stands for the later position. -/
def Ordered (a : Fin W → EReal) (n : Fin W → ℕ) : Prop :=
  ∀ l l', l < l' → a l = a l' → a l ≠ ⊥ → n l < n l'

/-- Lane `p` holds the greatest value, and is the first lane to if that value is not −∞. -/
def IsFirst (a : Fin W → EReal) (p : Fin W) : Prop :=
  (∀ l, a l ≤ a p) ∧ (a p ≠ ⊥ → ∀ l < p, a l ≠ a p)

/-- The first lane of the greatest value holds the least live key. -/
theorem first_le {a : Fin W → EReal} {n : Fin W → ℕ} {p : Fin W} (ho : Ordered a n) (hp : IsFirst a p)
    (hlive : a p ≠ ⊥) : ∀ x ∈ live a n, key (a p) (n p) ≤ x := by
  intro x hx
  obtain ⟨l, hl, rfl⟩ := mem_live.mp hx
  rcases lt_or_eq_of_le (hp.1 l) with h | h
  · exact le_of_lt (key_lt.mpr (.inl h))
  · rcases lt_trichotomy l p with hlp | rfl | hpl
    · exact absurd h (hp.2 hlive l hlp)
    · exact le_rfl
    · exact le_of_lt (key_lt.mpr (.inr ⟨h.symm, ho p l hpl h.symm hlive⟩))

/-- Overwriting that lane with −∞ takes the least key out of the live keys. -/
theorem live_knock {a b : Fin W → EReal} {n : Fin W → ℕ} {p : Fin W} (ho : Ordered a n)
    (hlive : a p ≠ ⊥) (hb : ∀ l, b l = if l = p then ⊥ else a l) :
    live b n = (live a n).erase (key (a p) (n p)) := by
  ext x
  rw [Finset.mem_erase, mem_live, mem_live]
  constructor
  · rintro ⟨l, hl, rfl⟩
    rw [hb l] at hl ⊢
    by_cases h : l = p
    · simp [h] at hl
    · rw [if_neg h] at hl ⊢
      refine ⟨fun he => ?_, l, hl, rfl⟩
      obtain ⟨hv, hn⟩ := key_inj.mp he
      rcases lt_or_gt_of_ne h with hlp | hpl
      · exact absurd hn (ho l p hlp hv hl).ne
      · exact absurd hn (ho p l hpl hv.symm hlive).ne'
  · rintro ⟨hne, l, hl, rfl⟩
    have h : l ≠ p := fun h => hne (by rw [h])
    exact ⟨l, by rw [hb l, if_neg h]; exact hl, by rw [hb l, if_neg h]⟩

/-- Overwriting a lane with −∞ keeps the lanes ordered. -/
theorem ordered_knock {a b : Fin W → EReal} {n : Fin W → ℕ} {p : Fin W} (ho : Ordered a n)
    (hb : ∀ l, b l = if l = p then ⊥ else a l) : Ordered b n := by
  intro l l' hll he hl
  rw [hb l] at he hl
  rw [hb l'] at he
  by_cases h : l = p
  · simp [h] at hl
  · rw [if_neg h] at he hl
    by_cases h' : l' = p
    · rw [if_pos h'] at he; exact absurd he hl
    · rw [if_neg h'] at he; exact ho l l' hll he hl

/-- Rounds of taking the first greatest lane and overwriting it with −∞ take the live keys in order: round `j` finds
    the live key of rank `j`, or −∞ when there is none. -/
theorem rounds (a : ℕ → Fin W → EReal) (p : ℕ → Fin W) (n : Fin W → ℕ) (k : ℕ)
    (hfirst : ∀ i < k, IsFirst (a i) (p i))
    (hstep : ∀ i < k, ∀ l, a (i + 1) l = if l = p i then ⊥ else a i l) (ho : Ordered (a 0) n) :
    ∀ j < k, pick j (live (a 0) n) = if a j (p j) = ⊥ then none else some (key (a j (p j)) (n (p j))) := by
  induction k generalizing a p with
  | zero => intro j hj; omega
  | succ k ih =>
    intro j hj
    by_cases h0 : a 0 (p 0) = ⊥
    · have hall : ∀ i ≤ j, ∀ l, a i l = ⊥ := by
        intro i
        induction i with
        | zero => intro _ l; exact le_bot_iff.mp (h0 ▸ (hfirst 0 (by omega)).1 l)
        | succ i ihi =>
          intro hi l
          rw [hstep i (by omega) l, ihi (by omega) l]; simp
      have he : live (a 0) n = ∅ := by
        ext x; simp [mem_live, hall 0 (by omega)]
      rw [he, pick_empty, if_pos (hall j le_rfl _)]
    · have hm : key (a 0 (p 0)) (n (p 0)) ∈ live (a 0) n := mem_live.mpr ⟨p 0, h0, rfl⟩
      have hle := first_le ho (hfirst 0 (by omega)) h0
      cases j with
      | zero => rw [pick, least_eq hm hle, if_neg h0]
      | succ j =>
        rw [pick, rest_eq hm hle, ← live_knock ho h0 (hstep 0 (by omega))]
        exact ih (fun i => a (i + 1)) (fun i => p (i + 1)) (fun i hi => hfirst (i + 1) (by omega))
          (fun i hi l => hstep (i + 1) (by omega) l) (ordered_knock ho (hstep 0 (by omega))) j (by omega)

/-- A row whose positions are listed by `s` in ascending order of their keys has its live key of rank `j` at `s j`. -/
theorem pick_of_sorted {N : ℕ} (v : Fin N → EReal) (s : Fin N → Fin N) (hs : Function.Surjective s)
    (hlt : ∀ i j, i < j → key (v (s i)) (s i).val < key (v (s j)) (s j).val) (j : Fin N) :
    pick j.val (live v fun l => l.val) = if v (s j) = ⊥ then none else some (key (v (s j)) (s j).val) := by
  classical
  have hN : 0 < N := j.pos
  let p : ℕ → Fin N := fun k => if h : k < N then s ⟨k, h⟩ else s ⟨0, hN⟩
  have hp : ∀ k (h : k < N), p k = s ⟨k, h⟩ := fun k h => dif_pos h
  have hinj : Function.Injective s := by
    intro x y hxy
    rcases lt_trichotomy x y with h | h | h
    · exact absurd (hxy ▸ hlt x y h) (lt_irrefl _)
    · exact h
    · exact absurd (hxy ▸ hlt y x h) (lt_irrefl _)
  let a : ℕ → Fin N → EReal := fun k l => if ∃ i < k, p i = l then ⊥ else v l
  have ha : ∀ k (h : k < N), a k (p k) = v (p k) := by
    intro k h
    refine if_neg ?_
    rintro ⟨i, hi, he⟩
    rw [hp i (by omega), hp k h] at he
    exact absurd (Fin.val_eq_of_eq (hinj he)) (by simp; omega)
  have key_of := rounds a p (fun l => l.val) N (fun k hk => ?_) (fun k hk l => ?_) ?_ j.val j.isLt
  · have h0 : a 0 = v := by funext l; simp [a]
    rw [h0, ha j.val j.isLt, hp j.val j.isLt] at key_of
    exact key_of
  · have hall : ∀ l, a k l ≠ ⊥ → ∃ i : Fin N, k ≤ i.val ∧ s i = l ∧ a k l = v l := by
      intro l hl
      obtain ⟨i, rfl⟩ := hs l
      by_cases h : ∃ i' < k, p i' = s i
      · exact absurd (if_pos h) hl
      · refine ⟨i, ?_, rfl, if_neg h⟩
        by_contra hik
        exact h ⟨i.val, by omega, hp i.val i.isLt⟩
    have hcmp : ∀ i : Fin N, k ≤ i.val → key (v (p k)) (p k).val ≤ key (v (s i)) (s i).val := by
      intro i hi
      rw [hp k hk]
      rcases Nat.lt_or_eq_of_le hi with h | h
      · exact le_of_lt (hlt ⟨k, hk⟩ i h)
      · have : (⟨k, hk⟩ : Fin N) = i := Fin.ext h
        rw [this]
    constructor
    · intro l
      by_cases hl : a k l = ⊥
      · rw [hl]; exact bot_le
      · obtain ⟨i, hi, rfl, he⟩ := hall l hl
        rw [he, ha k hk]
        rcases lt_or_eq_of_le (hcmp i hi) with h | h
        · rcases key_lt.mp h with h | h
          · exact h.le
          · exact h.1.ge
        · exact (key_inj.mp h).1.ge
    · intro hlive l hlp he
      obtain ⟨i, hi, rfl, hv⟩ := hall l (he ▸ hlive)
      rw [hv, ha k hk] at he
      rcases lt_or_eq_of_le (hcmp i hi) with h | h
      · rcases key_lt.mp h with h | h
        · exact absurd he h.ne
        · exact absurd h.2 (not_lt.mpr (le_of_lt hlp))
      · exact absurd (key_inj.mp h).2 (Fin.val_ne_of_ne hlp.ne').symm.symm
  · show (if ∃ i < k + 1, p i = l then ⊥ else v l) = _
    by_cases hl : l = p k
    · rw [if_pos hl, if_pos ⟨k, by omega, hl.symm⟩]
    · rw [if_neg hl]
      refine if_congr ⟨?_, ?_⟩ rfl rfl
      · rintro ⟨i, hi, he⟩
        rcases Nat.lt_or_eq_of_le (Nat.lt_succ_iff.mp hi) with h | rfl
        · exact ⟨i, h, he⟩
        · exact absurd he.symm hl
      · rintro ⟨i, hi, he⟩; exact ⟨i, by omega, he⟩
  · intro l l' hll _ _; exact hll

/-! ## Merging two runs -/

/-- `Holds C v n`: the eight lanes `(v, n)` hold the five first keys of `C` in order, −∞ where there is none. -/
def Holds (C : Finset Key) (v : Fin 8 → EReal) (n : Fin 8 → ℕ) : Prop :=
  (∀ j : Fin 8, j.val < 5 → pick j.val C = if v j = ⊥ then none else some (key (v j) (n j))) ∧
    ∀ j : Fin 8, 5 ≤ j.val → v j = ⊥

/-- A live lane of such a run holds a member of the set, below the fifth rank. -/
theorem Holds.pick_eq {C : Finset Key} {v : Fin 8 → EReal} {n : Fin 8 → ℕ} (h : Holds C v n) {j : Fin 8}
    (hj : v j ≠ ⊥) : j.val < 5 ∧ pick j.val C = some (key (v j) (n j)) := by
  have h5 : j.val < 5 := by
    by_contra h5
    exact hj (h.2 j (by omega))
  exact ⟨h5, by rw [h.1 j h5, if_neg hj]⟩

/-- Of the eight lanes of one run put before the eight of another, the lanes of rank at most five. -/
theorem merge {A B : Finset Key} {v w : Fin 8 → EReal} {n k : Fin 8 → ℕ} (hA : Holds A v n) (hB : Holds B w k)
    (hAB : ∀ x ∈ A, ∀ y ∈ B, x.2 < y.2)
    (a : Fin 16 → EReal) (m : Fin 16 → ℕ)
    (hal : ∀ j : Fin 8, a ⟨j.val, by omega⟩ = v j) (har : ∀ j : Fin 8, a ⟨j.val + 8, by omega⟩ = w j)
    (hml : ∀ j : Fin 8, m ⟨j.val, by omega⟩ = n j) (hmr : ∀ j : Fin 8, m ⟨j.val + 8, by omega⟩ = k j) :
    Ordered a m ∧ ∀ j < 5, pick j (live a m) = pick j (A ∪ B) := by
  have split : ∀ l : Fin 16, (∃ j : Fin 8, l = ⟨j.val, by omega⟩) ∨ ∃ j : Fin 8, l = ⟨j.val + 8, by omega⟩ := by
    intro l
    by_cases h : l.val < 8
    · exact .inl ⟨⟨l.val, h⟩, rfl⟩
    · exact .inr ⟨⟨l.val - 8, by omega⟩, Fin.ext (by simp; omega)⟩
  constructor
  · intro l l' hll he hl
    rcases split l with ⟨j, rfl⟩ | ⟨j, rfl⟩ <;> rcases split l' with ⟨j', rfl⟩ | ⟨j', rfl⟩
    · rw [hal, hal] at he; rw [hal] at hl; rw [hml, hml]
      have hlt := pick_lt (by simpa using hll) (hA.pick_eq hl).2 (hA.pick_eq (he ▸ hl)).2
      rcases key_lt.mp hlt with h | h
      · exact absurd he.symm h.ne
      · exact h.2
    · rw [hal, har] at he; rw [hal] at hl; rw [hml, hmr]
      exact hAB _ (mem_of_pick (hA.pick_eq hl).2) _ (mem_of_pick (hB.pick_eq (he ▸ hl)).2)
    · have : j.val + 8 < j'.val := hll
      omega
    · rw [har, har] at he; rw [har] at hl; rw [hmr, hmr]
      have hlt := pick_lt (by simpa using hll) (hB.pick_eq hl).2 (hB.pick_eq (he ▸ hl)).2
      rcases key_lt.mp hlt with h | h
      · exact absurd he.symm h.ne
      · exact h.2
  · refine pick_of_between (fun x hx => ?_) (fun j hj x hx => ?_)
    · obtain ⟨l, hl, rfl⟩ := mem_live.mp hx
      rcases split l with ⟨j, rfl⟩ | ⟨j, rfl⟩
      · rw [hal] at hl ⊢; rw [hml]
        exact Finset.mem_union_left _ (mem_of_pick (hA.pick_eq hl).2)
      · rw [har] at hl ⊢; rw [hmr]
        exact Finset.mem_union_right _ (mem_of_pick (hB.pick_eq hl).2)
    · rw [mem_live]
      rcases pick_union hx with ⟨i, hi, hp⟩ | ⟨i, hi, hp⟩
      · have := hA.1 ⟨i, by omega⟩ (show i < 5 by omega)
        rw [show (⟨i, by omega⟩ : Fin 8).val = i from rfl, hp] at this
        by_cases hv : v ⟨i, by omega⟩ = ⊥
        · simp [hv] at this
        · rw [if_neg hv] at this
          exact ⟨⟨i, by omega⟩, by rw [hal ⟨i, by omega⟩]; exact hv,
            by rw [hal ⟨i, by omega⟩, hml ⟨i, by omega⟩]; exact (Option.some.inj this).symm⟩
      · have := hB.1 ⟨i, by omega⟩ (show i < 5 by omega)
        rw [show (⟨i, by omega⟩ : Fin 8).val = i from rfl, hp] at this
        by_cases hv : w ⟨i, by omega⟩ = ⊥
        · simp [hv] at this
        · rw [if_neg hv] at this
          exact ⟨⟨i + 8, by omega⟩, by rw [har ⟨i, by omega⟩]; exact hv,
            by rw [har ⟨i, by omega⟩, hmr ⟨i, by omega⟩]; exact (Option.some.inj this).symm⟩

end Cert.Pick

end
-- ==== Proof.Merge.lean ====
/-
  One grid point, row by row: the chunk's candidates are the chunk's first five keys, and merging them with the running
  five gives the first five keys of everything seen so far, with their ids.
-/
module

public import proofs.«01_k».proof.Proof.Body
public import proofs.«01_k».proof.Proof.Pick
public import proofs.«01_k».proof.Proof.Points
public import Idealize.ShloMosaic.Lib.MatmulPlain
public import Idealize.ShloMosaic.Lib.Pipeline.Value

@[expose] public section

set_option maxRecDepth 16384

noncomputable section

namespace Cert.KernelIdeal.Body

open Idealize.ShloMosaic Idealize.ShloMosaic.ValueIdx Cert.KernelIdeal Cert.KernelIdeal.Gen
open Cert.Pick
open scoped BigOperators

/-! ## Columns side by side -/

/-- Lane `j` of five columns with padding: the `j`th column, the padding's value from the sixth lane on. -/
theorem stack_apply (a b c d e : Mat 1) (pad : Mat 3) (q : Fin 64) (z : EReal) (hz : ∀ k : Fin 3, pad (ix2 q k) = z) (j : Fin 8) :
    stack a b c d e pad (ix2 q j) = (![a (ix2 q 0), b (ix2 q 0), c (ix2 q 0), d (ix2 q 0), e (ix2 q 0), z, z, z] : Fin 8 → EReal) j := by
  unfold stack
  have off : ∀ (W : ℕ) (r : Fin W) (j : Fin 8) (b : Fin 2), b ≠ 1 → ((ix2 q r : (Rows.Sh W).Idx) b).val = ((ix2 q j : S64x8.Idx) b).val := by
    intro W r j b hb
    match b with
    | ⟨0, _⟩ => rfl
    | ⟨1, _⟩ => exact absurd rfl hb
  match j with
  | ⟨0, _⟩ => exact concatenate_apply_piece (t := S64x8) 1 _ _ (ix2 q (0 : Fin 8)) 0 (by show 0 < 6; omega) S64x1 a rfl rfl 0 rfl (ix2 q (0 : Fin 1)) (fun b hb => off 1 0 0 b hb) rfl
  | ⟨1, _⟩ => exact concatenate_apply_piece (t := S64x8) 1 _ _ (ix2 q (1 : Fin 8)) 1 (by show 1 < 6; omega) S64x1 b rfl rfl 1 rfl (ix2 q (0 : Fin 1)) (fun b hb => off 1 0 1 b hb) rfl
  | ⟨2, _⟩ => exact concatenate_apply_piece (t := S64x8) 1 _ _ (ix2 q (2 : Fin 8)) 2 (by show 2 < 6; omega) S64x1 c rfl rfl 2 rfl (ix2 q (0 : Fin 1)) (fun b hb => off 1 0 2 b hb) rfl
  | ⟨3, _⟩ => exact concatenate_apply_piece (t := S64x8) 1 _ _ (ix2 q (3 : Fin 8)) 3 (by show 3 < 6; omega) S64x1 d rfl rfl 3 rfl (ix2 q (0 : Fin 1)) (fun b hb => off 1 0 3 b hb) rfl
  | ⟨4, _⟩ => exact concatenate_apply_piece (t := S64x8) 1 _ _ (ix2 q (4 : Fin 8)) 4 (by show 4 < 6; omega) S64x1 e rfl rfl 4 rfl (ix2 q (0 : Fin 1)) (fun b hb => off 1 0 4 b hb) rfl
  | ⟨5, _⟩ => exact (concatenate_apply_piece (t := S64x8) 1 _ _ (ix2 q (5 : Fin 8)) 5 (by show 5 < 6; omega) S64x3 pad rfl rfl 5 rfl (ix2 q (0 : Fin 3)) (fun b hb => off 3 0 5 b hb) rfl).trans (hz 0)
  | ⟨6, _⟩ => exact (concatenate_apply_piece (t := S64x8) 1 _ _ (ix2 q (6 : Fin 8)) 5 (by show 5 < 6; omega) S64x3 pad rfl rfl 5 rfl (ix2 q (1 : Fin 3)) (fun b hb => off 3 1 6 b hb) rfl).trans (hz 1)
  | ⟨7, _⟩ => exact (concatenate_apply_piece (t := S64x8) 1 _ _ (ix2 q (7 : Fin 8)) 5 (by show 5 < 6; omega) S64x3 pad rfl rfl 5 rfl (ix2 q (2 : Fin 3)) (fun b hb => off 3 2 7 b hb) rfl).trans (hz 2)

/-- The left eight of sixteen lanes. -/
theorem beside_left (a b : Mat 8) (q : Fin 64) (j : Fin 8) : beside a b (ix2 q ⟨j.val, by omega⟩) = a (ix2 q j) := by
  unfold beside
  refine concatenate_apply_piece (t := S64x16) 1 _ _ (ix2 q (⟨j.val, by omega⟩ : Fin 16)) 0 (by show 0 < 2; omega) S64x8 a rfl rfl 0 rfl (ix2 q j) ?_ (Nat.zero_add _)
  intro b hb
  match b with
  | ⟨0, _⟩ => rfl
  | ⟨1, _⟩ => exact absurd rfl hb

/-- The right eight of sixteen lanes. -/
theorem beside_right (a b : Mat 8) (q : Fin 64) (j : Fin 8) : beside a b (ix2 q ⟨j.val + 8, by omega⟩) = b (ix2 q j) := by
  unfold beside
  refine concatenate_apply_piece (t := S64x16) 1 _ _ (ix2 q (⟨j.val + 8, by omega⟩ : Fin 16)) 1 (by show 1 < 2; omega) S64x8 b rfl rfl 8 rfl (ix2 q j) ?_ (Nat.add_comm _ _)
  intro b hb
  match b with
  | ⟨0, _⟩ => rfl
  | ⟨1, _⟩ => exact absurd rfl hb

/-! ## Reading an id through the marks -/

/-- A product of the marks with a column is the column's entry at the one marked lane. -/
theorem marks_mul (h : IVec S64x4000 1) (e : FVec Ideal S4000x1 .f32) (q : Fin 64) (p : Fin 4000)
    (hh : ∀ l, h (ix2 q l) = if l = p then 1#1 else 0#1) :
    matmul dot_S64x4000_S4000x1_S64x1_1_0_0_1_n_n none (sitofp (F := Ideal) .f32 (extui 32 h natLt_1_32)) e
      (constant S64x1 .f32 0x00000000#32) (ix2 q 0) = e (ix2 p 0) := by
  refine (Ideal.matmul_plain_apply (M := 64) (K := 4000) (N := 1) none _ e _ q 0).trans ?_
  have one : ∀ l, sitofp (F := Ideal) .f32 (extui 32 h natLt_1_32) (ix2 q l) = if l = p then (1 : EReal) else 0 := by
    intro l
    show (((((h (ix2 q l)).setWidth 32).toInt : ℤ) : ℝ) : EReal) = _
    rw [hh l]
    by_cases hl : l = p <;> simp [hl]
  show Ideal.ofBits .f32 0x00000000#32 + _ = _
  rw [Ideal.ofBits_zero_f32, zero_add, Finset.sum_eq_single p]
  · rw [one, if_pos rfl, one_mul]
  · intro l _ hl
    rw [one, if_neg hl, zero_mul]
  · intro hp; exact absurd (Finset.mem_univ p) hp

/-- The id read at the marked lane, a finite one. -/
theorem pull_apply (h : IVec S64x4000 1) (e : FVec Ideal S4000x1 .f32) (q : Fin 64) (p : Fin 4000)
    (hh : ∀ l, h (ix2 q l) = if l = p then 1#1 else 0#1) (r : ℝ) (hr : e (ix2 p 0) = r) :
    pull h e (ix2 q 0) = r := by
  unfold pull
  show Ideal.ofBits .f32 0x41000000#32 * matmul _ none _ (k0_pay14 (F := Ideal) e) _ (ix2 q 0) + matmul _ none _ (k0_pay15 (F := Ideal) e) _ (ix2 q 0) = _
  rw [marks_mul h _ q p hh, marks_mul h _ q p hh]
  have h14 : k0_pay14 (F := Ideal) e (ix2 p 0) = ((⌊r * (1 / 8)⌋ : ℝ) : EReal) := by
    show Ideal.liftRound Int.floor (e (ix2 p 0) * Ideal.ofBits .f32 0x3E000000#32) = _
    rw [hr, Rows.ofBits_eighth, ← EReal.coe_mul]
    rfl
  have h15 : k0_pay15 (F := Ideal) e (ix2 p 0) = e (ix2 p 0) - Ideal.ofBits .f32 0x41000000#32 * k0_pay14 (F := Ideal) e (ix2 p 0) := rfl
  rw [h15, h14, hr, Rows.ofBits_eight]
  rw [← EReal.coe_mul, ← EReal.coe_sub, ← EReal.coe_add]
  congr 1
  ring

/-! ## Five rounds over a row -/

/-- Five rounds over a chunk's row: the first five keys, their marks, and where their values come from. -/
theorem rounds4 (s : Mat 4000) (q : Fin 64) (n : Fin 4000 → ℕ) (ho : Ordered (fun l => s (ix2 q l)) n) :
    ∃ p : ℕ → Fin 4000,
      (∀ j < 5, pick j (live (fun l => s (ix2 q l)) n) = if top4 (it4 s j) (ix2 q 0) = ⊥ then none
          else some (key (top4 (it4 s j) (ix2 q 0)) (n (p j))))
      ∧ ∀ j l, hot4 (it4 s j) (ix2 q l) = if l = p j then 1#1 else 0#1 := by
  choose p hmax hfirst htop hhot hknock hsel using fun j => Rows.round reduces_S64x4000_S64 shapeCasts_S64_S64x1
    broadcasts_S64x1_S64x4000 iota_S64x4000_d1_w32 (by omega) (it4 s j) q
  refine ⟨p, ?_, hhot⟩
  intro j hj
  have h := rounds (fun j l => it4 s j (ix2 q l)) p n 5 (fun i _ => ⟨hmax i, fun _ => hfirst i⟩)
    (fun i _ l => hknock i l) ho j hj
  have ht : top4 (it4 s j) (ix2 q 0) = it4 s j (ix2 q (p j)) := htop j
  rw [ht]
  exact h

/-- Five rounds over a merge's row. -/
theorem rounds16 (s : Mat 16) (q : Fin 64) (n : Fin 16 → ℕ) (ho : Ordered (fun l => s (ix2 q l)) n) :
    ∃ p : ℕ → Fin 16,
      (∀ j < 5, pick j (live (fun l => s (ix2 q l)) n) = if top16 (it16 s j) (ix2 q 0) = ⊥ then none
          else some (key (top16 (it16 s j) (ix2 q 0)) (n (p j))))
      ∧ (∀ j, top16 (it16 s j) (ix2 q 0) ≠ ⊥ → s (ix2 q (p j)) ≠ ⊥)
      ∧ ∀ j x, sel16 (it16 s j) x (ix2 q 0) = x (ix2 q (p j)) := by
  choose p hmax hfirst htop hhot hknock hsel using fun j => Rows.round reduces_S64x16_S64 shapeCasts_S64_S64x1
    broadcasts_S64x1_S64x16 iota_S64x16_d1_w32 (by omega) (it16 s j) q
  have hk : ∀ j l, it16 s (j + 1) (ix2 q l) = if l = p j then ⊥ else it16 s j (ix2 q l) := hknock
  have keep : ∀ j l, it16 s j (ix2 q l) = ⊥ ∨ it16 s j (ix2 q l) = s (ix2 q l) := by
    intro j l
    induction j with
    | zero => exact .inr rfl
    | succ j ih =>
      rw [hk]
      split
      · exact .inl rfl
      · exact ih
  have ht : ∀ j, top16 (it16 s j) (ix2 q 0) = it16 s j (ix2 q (p j)) := htop
  refine ⟨p, ?_, ?_, hsel⟩
  · intro j hj
    have h := rounds (fun j l => it16 s j (ix2 q l)) p n 5 (fun i _ => ⟨hmax i, fun _ => hfirst i⟩)
      (fun i _ l => hknock i l) ho j hj
    rw [ht]
    exact h
  · intro j hne
    rw [ht] at hne
    rcases keep j (p j) with h | h
    · exact absurd h hne
    · rwa [← h]

/-! ## The running rows -/

/-- A row of running values and ids holds the first five keys of `C`: live lanes have their row's id, every lane a finite one. -/
def Row (ID : ℕ → ℝ) (C : Finset Key) (v i : Mat 8) (q : Fin 64) : Prop :=
  ∃ n : Fin 8 → ℕ, Holds C (fun j => v (ix2 q j)) n ∧ (∀ j, v (ix2 q j) ≠ ⊥ → i (ix2 q j) = ((ID (n j) : ℝ) : EReal))
    ∧ ∀ j, ∃ r : ℝ, i (ix2 q j) = r

/-- Eight lanes, five of them listed. -/
theorem eight {P : Fin 8 → Prop} (h : ∀ j : Fin 5, P ⟨j.val, by omega⟩) (h' : ∀ j : Fin 8, 5 ≤ j.val → P j) (j : Fin 8) : P j := by
  by_cases hj : j.val < 5
  · exact h ⟨j.val, hj⟩
  · exact h' j (by omega)

/-- The first five of eight listed lanes. -/
theorem five (f : ℕ → EReal) (z : EReal) (j : Fin 5) :
    (![f 0, f 1, f 2, f 3, f 4, z, z, z] : Fin 8 → EReal) ⟨j.val, by omega⟩ = f j.val := by
  fin_cases j <;> rfl

/-- The last three of eight listed lanes. -/
theorem three (a b c d e z : EReal) (j : Fin 8) (hj : 5 ≤ j.val) :
    (![a, b, c, d, e, z, z, z] : Fin 8 → EReal) j = z := by
  fin_cases j <;> first | rfl | exact absurd hj (by decide)

/-- The three lanes appended to a row of values hold −∞. -/
theorem pad17 (q : Fin 64) (k : Fin 3) : k0_pay17 (F := Ideal) (ix2 q k) = (⊥ : EReal) := Rows.ofBits_bot

/-- The three lanes appended to a row of ids hold zero. -/
theorem pad18 (q : Fin 64) (k : Fin 3) : k0_pay18 (F := Ideal) (ix2 q k) = (0 : EReal) := Ideal.ofBits_zero_f32

/-- A chunk's candidates hold the chunk's first five keys. -/
theorem cand_row (ID : ℕ → ℝ) (s : Mat 4000) (e : FVec Ideal S4000x1 .f32) (q : Fin 64) (n : Fin 4000 → ℕ)
    (ho : Ordered (fun l => s (ix2 q l)) n) (hid : ∀ l, e (ix2 l 0) = ((ID (n l) : ℝ) : EReal)) :
    Row ID (live (fun l => s (ix2 q l)) n) (cand s) (candI s e) q := by
  obtain ⟨p, hpick, hhot⟩ := rounds4 s q n ho
  have hv : ∀ j : Fin 5, cand s (ix2 q ⟨j.val, by omega⟩) = top4 (it4 s j.val) (ix2 q 0) := by
    intro j
    unfold cand
    rw [stack_apply _ _ _ _ _ _ q ⊥ (pad17 q)]
    exact five (fun k => top4 (it4 s k) (ix2 q 0)) ⊥ j
  have hv' : ∀ j : Fin 8, 5 ≤ j.val → cand s (ix2 q j) = ⊥ := by
    intro j hj
    unfold cand
    rw [stack_apply _ _ _ _ _ _ q ⊥ (pad17 q)]
    exact three _ _ _ _ _ _ j hj
  have hi : ∀ j : Fin 5, candI s e (ix2 q ⟨j.val, by omega⟩) = ((ID (n (p j.val)) : ℝ) : EReal) := by
    intro j
    rw [← pull_apply _ e q (p j.val) (hhot j.val) _ (hid (p j.val))]
    unfold candI
    rw [stack_apply _ _ _ _ _ _ q 0 (pad18 q)]
    exact five (fun k => pull (hot4 (it4 s k)) e (ix2 q 0)) 0 j
  have hi' : ∀ j : Fin 8, 5 ≤ j.val → candI s e (ix2 q j) = 0 := by
    intro j hj
    unfold candI
    rw [stack_apply _ _ _ _ _ _ q 0 (pad18 q)]
    exact three _ _ _ _ _ _ j hj
  refine ⟨fun j => n (p j.val), ⟨?_, hv'⟩, ?_, ?_⟩
  · intro j hj
    dsimp only
    rw [hpick j.val hj, ← hv ⟨j.val, hj⟩]
  · exact eight (fun j _ => hi j) fun j hj hne => absurd (hv' j hj) hne
  · exact eight (fun j => ⟨_, hi j⟩) fun j hj => ⟨0, by rw [hi' j hj]; rfl⟩

/-- Merging two rows holds the first five keys of both together. -/
theorem best_row (ID : ℕ → ℝ) {A B : Finset Key} (rv ri cv ci : Mat 8) (q : Fin 64) (hA : Row ID A rv ri q)
    (hB : Row ID B cv ci q) (hAB : ∀ x ∈ A, ∀ y ∈ B, x.2 < y.2) :
    Row ID (A ∪ B) (best (beside rv cv)) (bestI (beside rv cv) (beside ri ci)) q := by
  obtain ⟨n, hn, hni, hnr⟩ := hA
  obtain ⟨k, hk, hki, hkr⟩ := hB
  have split : ∀ l : Fin 16, (∃ j : Fin 8, l = ⟨j.val, by omega⟩) ∨ ∃ j : Fin 8, l = ⟨j.val + 8, by omega⟩ := by
    intro l
    by_cases h : l.val < 8
    · exact .inl ⟨⟨l.val, h⟩, rfl⟩
    · exact .inr ⟨⟨l.val - 8, by omega⟩, Fin.ext (by simp; omega)⟩
  let m : Fin 16 → ℕ := fun l => if h : l.val < 8 then n ⟨l.val, h⟩ else k ⟨l.val - 8, by omega⟩
  have hml : ∀ j : Fin 8, m ⟨j.val, by omega⟩ = n j := fun j => dif_pos j.isLt
  have hmr : ∀ j : Fin 8, m ⟨j.val + 8, by omega⟩ = k j := fun j => by
    show (if h : j.val + 8 < 8 then _ else k ⟨j.val + 8 - 8, _⟩) = k j
    rw [dif_neg (by omega)]
    exact congrArg k (Fin.ext (by simp))
  obtain ⟨ho, hpick⟩ := merge hn hk hAB (fun l => beside rv cv (ix2 q l)) m (fun j => beside_left rv cv q j)
    (fun j => beside_right rv cv q j) hml hmr
  have hreal : ∀ l, ∃ r : ℝ, beside ri ci (ix2 q l) = r := by
    intro l
    rcases split l with ⟨j, rfl⟩ | ⟨j, rfl⟩
    · rw [beside_left]; exact hnr j
    · rw [beside_right]; exact hkr j
  have hids : ∀ l, beside rv cv (ix2 q l) ≠ ⊥ → beside ri ci (ix2 q l) = ((ID (m l) : ℝ) : EReal) := by
    intro l
    rcases split l with ⟨j, rfl⟩ | ⟨j, rfl⟩
    · rw [beside_left, beside_left, hml]; exact hni j
    · rw [beside_right, beside_right, hmr]; exact hki j
  generalize beside rv cv = s at *
  generalize beside ri ci = x at *
  obtain ⟨p, hp, hne, hsel⟩ := rounds16 s q m ho
  have hv : ∀ j : Fin 5, best s (ix2 q ⟨j.val, by omega⟩) = top16 (it16 s j.val) (ix2 q 0) := by
    intro j
    unfold best
    rw [stack_apply _ _ _ _ _ _ q ⊥ (pad17 q)]
    exact five (fun k => top16 (it16 s k) (ix2 q 0)) ⊥ j
  have hv' : ∀ j : Fin 8, 5 ≤ j.val → best s (ix2 q j) = ⊥ := by
    intro j hj
    unfold best
    rw [stack_apply _ _ _ _ _ _ q ⊥ (pad17 q)]
    exact three _ _ _ _ _ _ j hj
  have hi : ∀ j : Fin 5, bestI s x (ix2 q ⟨j.val, by omega⟩) = x (ix2 q (p j.val)) := by
    intro j
    rw [← hsel j.val x]
    unfold bestI
    rw [stack_apply _ _ _ _ _ _ q 0 (pad18 q)]
    exact five (fun k => sel16 (it16 s k) x (ix2 q 0)) 0 j
  have hi' : ∀ j : Fin 8, 5 ≤ j.val → bestI s x (ix2 q j) = 0 := by
    intro j hj
    unfold bestI
    rw [stack_apply _ _ _ _ _ _ q 0 (pad18 q)]
    exact three _ _ _ _ _ _ j hj
  refine ⟨fun j => m (p j.val), ⟨?_, hv'⟩, ?_, ?_⟩
  · intro j hj
    dsimp only
    rw [← hpick j.val hj, hp j.val hj, ← hv ⟨j.val, hj⟩]
  · refine eight (fun j h => ?_) fun j hj h => absurd (hv' j hj) h
    rw [hi j]
    rw [hv j] at h
    exact hids _ (hne j.val h)
  · refine eight (fun j => ?_) fun j hj => ⟨0, by rw [hi' j hj]; rfl⟩
    rw [hi j]
    exact hreal _

end Cert.KernelIdeal.Body

end
-- ==== Proof.Chain.lean ====
/-
  The kernel's running rows after every point: the first five keys of all database rows read so far, with their ids.
-/
module

public import proofs.«01_k».proof.Proof.KerRun
public import proofs.«01_k».proof.Proof.Merge
public import Idealize.ShloMosaic.Lib.Pipeline.ValueKit.Tiles

@[expose] public section

set_option maxRecDepth 16384

noncomputable section

open Idealize.ShloMosaic Idealize.ShloMosaic.ValueIdx Idealize.ShloMosaic.TcCoe

namespace Cert.KernelIdeal.Body

open Cert.KernelIdeal Cert.KernelIdeal.Gen
open Cert.Pick
open scoped BigOperators

/-! ## What a query and a database give -/

/-- The similarity of query `q` and database row `n`. -/
def sim (x : FVec Ideal ⟨2, ![64, 64]⟩ .f32) (d : FVec Ideal ⟨2, ![100000, 65]⟩ .f32) (q : Fin 64) (n : Fin 100000) : EReal :=
  ∑ k : Fin 64, x (ix2 q k) * d (ix2 n ⟨k.val, by omega⟩)

/-- The id of database row `n`. -/
def idOf (d : FVec Ideal ⟨2, ![100000, 65]⟩ .f32) (n : ℕ) : ℝ :=
  if h : n < 100000 then EReal.toReal (d (ix2 ⟨n, h⟩ 64)) else 0

/-- The keys of the first `B` rows. -/
def seen (v : Fin 100000 → EReal) (B : ℕ) : Finset Key :=
  (Finset.univ.filter fun n : Fin 100000 => n.val < B ∧ v n ≠ ⊥).image fun n => key (v n) n.val

/-- Membership in the set of keys seen so far. -/
theorem mem_seen {v : Fin 100000 → EReal} {B : ℕ} {x : Key} :
    x ∈ seen v B ↔ ∃ n : Fin 100000, (n.val < B ∧ v n ≠ ⊥) ∧ key (v n) n.val = x := by
  simp [seen]

/-- No rows, no keys. -/
theorem seen_zero (v : Fin 100000 → EReal) : seen v 0 = ∅ := by
  ext x
  simp [mem_seen]

/-- All rows. -/
theorem seen_all (v : Fin 100000 → EReal) : seen v 100000 = live v fun l => l.val := by
  ext x
  rw [mem_seen, mem_live]
  constructor
  · rintro ⟨n, ⟨_, h⟩, rfl⟩; exact ⟨n, h, rfl⟩
  · rintro ⟨n, h, rfl⟩; exact ⟨n, ⟨n.isLt, h⟩, rfl⟩

/-- A chunk more. -/
theorem seen_step (v : Fin 100000 → EReal) (t : ℕ) (ht : t < 25) (a : Fin 4000 → EReal)
    (ha : ∀ l : Fin 4000, a l = v ⟨4000 * t + l.val, by omega⟩) :
    seen v (4000 * (t + 1)) = seen v (4000 * t) ∪ live a fun l => 4000 * t + l.val := by
  ext x
  rw [Finset.mem_union, mem_seen, mem_seen, mem_live]
  constructor
  · rintro ⟨n, ⟨hn, hv⟩, rfl⟩
    by_cases h : n.val < 4000 * t
    · exact .inl ⟨n, ⟨h, hv⟩, rfl⟩
    · have e : (⟨4000 * t + (n.val - 4000 * t), by omega⟩ : Fin 100000) = n := Fin.ext (by simp; omega)
      have e' : a ⟨n.val - 4000 * t, by omega⟩ = v n := by rw [ha]; exact congrArg v e
      refine .inr ⟨⟨n.val - 4000 * t, by omega⟩, by rw [e']; exact hv, ?_⟩
      rw [e']
      exact congrArg (key (v n)) (by simp; omega)
  · rintro (⟨n, ⟨hn, hv⟩, rfl⟩ | ⟨l, hl, rfl⟩)
    · exact ⟨n, ⟨by omega, hv⟩, rfl⟩
    · exact ⟨⟨4000 * t + l.val, by omega⟩, ⟨by simp; omega, by rw [← ha]; exact hl⟩, by rw [ha]⟩

/-! ## The chain -/

variable (m : (ℓ : Loc nD τ sig) → Buf (Elt Ideal) ℓ)

/-- The queries. -/
abbrev queries (c : Dev nD) : FVec Ideal ⟨2, ![64, 64]⟩ .f32 := m ((c.tc : Thread nD τ).loc main_arg3)
/-- The database. -/
abbrev places (c : Dev nD) : FVec Ideal ⟨2, ![100000, 65]⟩ .f32 := m ((c.tc : Thread nD τ).loc main_arg4)

/-- A chunk's descriptors at an index. -/
theorem descs_apply (b : Vec Ideal S4000x65 .f32) (l : Fin 4000) (k : Fin 64) :
    descs b (ix2 l k) = b (ix2 l ⟨k.val, by omega⟩) := by
  refine View.ld_unit_apply_of b _ _ _ _ _ fun a => ?_
  match a with
  | ⟨0, _⟩ => exact (Nat.zero_add _).symm
  | ⟨1, _⟩ => exact (Nat.zero_add _).symm

/-- A chunk's ids at an index. -/
theorem ids_apply (b : Vec Ideal S4000x65 .f32) (l : Fin 4000) :
    ids b (ix2 l 0) = b (ix2 l 64) := by
  refine View.ld_unit_apply_of b _ _ _ _ _ fun a => ?_
  match a with
  | ⟨0, _⟩ => exact (Nat.zero_add _).symm
  | ⟨1, _⟩ => rfl

/-- The similarities of a chunk at an index. -/
theorem simsAt_apply (c : Dev nD) (n : ℕ) (h : n < cfg0.N) (q : Fin 64) (l : Fin 4000) (l' : Fin 100000)
    (hl : l'.val = 4000 * n + l.val) : simsAt m c n h (ix2 q l) = sim (queries m c) (places m c) q l' := by
  unfold simsAt sims
  refine (Ideal.matmul_transposedRhs_apply (M := 64) (K := 64) (N := 4000) none _ _ _ q l).trans ?_
  show Ideal.ofBits .f32 0x00000000#32 + _ = _
  rw [Ideal.ofBits_zero_f32, zero_add]
  refine Finset.sum_congr rfl fun k _ => ?_
  rw [query_apply, descs_apply, chunk_apply m c n h l _ l' hl]

/-- Before the first chunk nothing is found. -/
theorem reset_row (ID : ℕ → ℝ) (q : Fin 64) : Row ID ∅ reset resetI q := by
  have hv : ∀ j : Fin 8, reset (ix2 q j) = ⊥ := fun _ => Rows.ofBits_bot
  refine ⟨fun _ => 0, ⟨fun j hj => ?_, fun j _ => hv j⟩, fun j h => absurd (hv j) h, fun j => ⟨0, Ideal.ofBits_zero_f32⟩⟩
  rw [if_pos (hv j)]
  exact pick_empty _

/-- After every point the running rows hold the first five keys of the rows read so far. -/
theorem chain_row (c : Dev nD) (hfin : ∀ n : Fin 100000, ∃ r : ℝ, places m c (ix2 n 64) = r) (q : Fin 64) :
    ∀ (n : ℕ) (h : n < cfg0.N), Row (idOf (places m c)) (seen (sim (queries m c) (places m c) q) (4000 * (n + 1)))
      (chain m c n h).1 (chain m c n h).2 q := by
  have hN : cfg0.N = 25 := N_0
  have hcand : ∀ (n : ℕ) (h : n < cfg0.N), Row (idOf (places m c))
      (live (fun l => simsAt m c n h (ix2 q l)) fun l => 4000 * n + l.val)
      (cand (simsAt m c n h)) (candI (simsAt m c n h) (ids (chunk m c n h))) q := by
    intro n h
    refine cand_row _ _ _ q _ (fun l l' hll _ _ => ?_) fun l => ?_
    · have : l.val < l'.val := hll
      omega
    · have hl : 4000 * n + l.val < 100000 := by omega
      rw [ids_apply, chunk_apply m c n h l 64 ⟨4000 * n + l.val, hl⟩ rfl, idOf, dif_pos hl]
      obtain ⟨r, hr⟩ := hfin ⟨4000 * n + l.val, hl⟩
      show places m c (ix2 _ 64) = ((EReal.toReal (places m c (ix2 _ 64)) : ℝ) : EReal)
      rw [hr, EReal.toReal_coe]
  have hsim : ∀ (n : ℕ) (h : n < cfg0.N) (l : Fin 4000),
      simsAt m c n h (ix2 q l) = sim (queries m c) (places m c) q ⟨4000 * n + l.val, by omega⟩ :=
    fun n h l => simsAt_apply m c n h q l _ rfl
  have hstep : ∀ (n : ℕ) (h : n < cfg0.N), ∀ x ∈ seen (sim (queries m c) (places m c) q) (4000 * n),
      ∀ y ∈ live (fun l => simsAt m c n h (ix2 q l)) (fun l => 4000 * n + l.val), x.2 < y.2 := by
    intro n h x hx y hy
    obtain ⟨a, ⟨ha, _⟩, rfl⟩ := mem_seen.mp hx
    obtain ⟨b, _, rfl⟩ := mem_live.mp hy
    show a.val < 4000 * n + b.val
    omega
  intro n
  induction n with
  | zero =>
    intro h
    rw [seen_step _ 0 (by omega) _ (hsim 0 h), Nat.mul_zero, seen_zero]
    exact best_row _ _ _ _ _ q (reset_row _ q) (hcand 0 h) fun x hx => absurd hx (Finset.notMem_empty x)
  | succ n ih =>
    intro h
    rw [seen_step _ (n + 1) (by omega) _ (hsim (n + 1) h)]
    exact best_row _ _ _ _ _ q (ih _) (hcand (n + 1) h) (hstep (n + 1) h)

/-- At the end they hold the first five keys of the whole database. -/
theorem final_row (c : Dev nD) (hfin : ∀ n : Fin 100000, ∃ r : ℝ, places m c (ix2 n 64) = r) (q : Fin 64) :
    Row (idOf (places m c)) (live (sim (queries m c) (places m c) q) fun l => l.val) (final m c).1 (final m c).2 q := by
  rw [← seen_all]
  exact chain_row m c hfin q 24 last_lt

end Cert.KernelIdeal.Body

end
-- ==== Proof.Sorted.lean ====
/-
  A row's greatest entries as the reference finds them: a stable sort by "greater" lists every position once, in ascending
  order of its key (greater value first, then the lesser position), and the first five are kept.
-/
module

public import proofs.«01_k».proof.Proof.Pick
public import Idealize.ShloMosaic.PureOps.Ideal.Laws
public import Idealize.ShloMosaic.Lib.SortFacts
public import Idealize.ShloMosaic.Lib.SortPrefix
public import Idealize.ShloMosaic.Lib.ValueIdx
public import Idealize.ShloMosaic.Lib.Pipeline.Value

@[expose] public section

noncomputable section

namespace Cert.Sorted

open Idealize.ShloMosaic Idealize.ShloMosaic.ValueIdx Cert.Pick

/-- Two orders that agree on every pair of a list whose later member comes first sort the list alike. -/
theorem stable_congr {ι : Type} (R B : ι → ι → Bool) (l : List ι) (h : l.Pairwise fun a b => R b a = B b a) :
    stableSort R l = stableSort B l := by
  induction l with
  | nil => rfl
  | cons a l ih =>
    rw [List.pairwise_cons] at h
    show insertBefore R a (stableSort R l) = insertBefore B a (stableSort B l)
    rw [ih h.2]
    exact insertBefore_congr R B a _ fun b hb => h.1 b ((perm_stableSort B l).mem_iff.1 hb)

/-- A stable sort of a row by "greater" lists the positions in ascending order of their keys. -/
theorem ascending {n : ℕ} (x : Fin n → EReal) (R : Fin n → Fin n → Bool) (hR : ∀ k k', R k k' = decide (x k' < x k))
    (i j : Fin n) (hij : i < j) :
    key (x (sortedFrom R i)) (sortedFrom R i).val < key (x (sortedFrom R j)) (sortedFrom R j).val := by
  let B : Fin n → Fin n → Bool := fun k k' => decide (key (x k) k.val < key (x k') k'.val)
  have hpos : sortPositions n R = sortPositions n B := by
    unfold sortPositions
    refine stable_congr R B _ ((List.pairwise_lt_finRange n).imp fun {a b} hab => ?_)
    rw [hR]
    show decide _ = decide _
    rw [decide_eq_decide, key_lt]
    constructor
    · exact .inl
    · rintro (h | ⟨-, h⟩)
      · exact h
      · exact absurd h (not_lt.2 (Fin.le_def.1 hab.le))
  have hfrom : sortedFrom R = sortedFrom B := by
    funext k
    unfold sortedFrom
    simp only [List.get_eq_getElem, hpos]
    rfl
  rw [hfrom]
  have hinv := sortedFrom_noInversion B B
    (fun a b h => decide_eq_false (not_lt.2 (of_decide_eq_true h).le)) (fun a b h => h)
    (fun a b c h1 h2 => decide_eq_false (not_lt.2 ((not_lt.1 (of_decide_eq_false h2)).trans (not_lt.1 (of_decide_eq_false h1)))))
    i j hij
  refine lt_of_le_of_ne (not_lt.1 (of_decide_eq_false hinv)) fun he => ?_
  exact hij.ne (sortedFrom_injective B (Fin.ext (key_inj.1 he).2))

/-- The five greatest entries of row `q` and their positions. -/
theorem top_row {n : ℕ} (hn : 5 ≤ n) (x : FVec Ideal ⟨2, ![64, n]⟩ .f32)
    (h : (⟨2, ![64, n]⟩ : Shape).Slices (fun _ => 0) ⟨2, ![64, 5]⟩) (q : Fin 64) :
    ∃ s : Fin n → Fin n, Function.Surjective s
      ∧ (∀ i j, i < j → key (x (ix2 q (s i))) (s i).val < key (x (ix2 q (s j))) (s j).val)
      ∧ ∀ j : Fin 5,
        (Host.topK ⟨2, ![64, 5]⟩ 1 (FloatOps.cmpfTotal .gt) x h).1 (ix2 q j) = x (ix2 q (s ⟨j.val, by omega⟩))
        ∧ (Host.topK ⟨2, ![64, 5]⟩ 1 (FloatOps.cmpfTotal .gt) x h).2 (ix2 q j) = BitVec.ofNat 32 (s ⟨j.val, by omega⟩).val := by
  have hal : ∀ (j k : Fin n), Shape.Idx.along (s := ⟨2, ![64, n]⟩) (ix2 q j) ⟨1, Nat.lt_succ_self 1⟩ k = ix2 q k := by
    intro j k
    funext a
    match a with
    | ⟨0, _⟩ => exact Function.update_of_ne (fun h => absurd (congrArg Fin.val h) Nat.zero_ne_one) _ _
    | ⟨1, _⟩ => exact Function.update_self _ _ _
  let R : Fin n → Fin n → Bool := fun k k' => FloatOps.cmpfTotal (F := Ideal) (φ := .f32) .gt (x (ix2 q k)) (x (ix2 q k')) == 1#1
  have hR : ∀ k k', R k k' = decide (x (ix2 q k') < x (ix2 q k)) := by
    intro k k'
    show (BitVec.ofBool (decide (x (ix2 q k) > x (ix2 q k'))) == 1#1) = _
    by_cases hlt : x (ix2 q k') < x (ix2 q k)
    · rw [decide_eq_true hlt]; rfl
    · rw [decide_eq_false hlt]; rfl
  refine ⟨sortedFrom R, sortedFrom_surjective R, ascending (fun k => x (ix2 q k)) R hR, fun j => ?_⟩
  have hsl : ∀ {α : Type} (y : (⟨2, ![64, n]⟩ : Shape).Idx → α),
      extractStridedSlice ⟨2, ![64, 5]⟩ (fun _ => 0) y h (ix2 q j) = y (ix2 q ⟨j.val, by omega⟩) := by
    intro α y
    exact extractStridedSlice_apply _ y h _ _ fun a => match a with
      | ⟨0, _⟩ => by show q.val = 0 + q.val; omega
      | ⟨1, _⟩ => by show j.val = 0 + j.val; omega
  unfold Host.topK
  dsimp only
  rw [hsl, hsl]
  unfold Host.sort2
  rw [dif_pos (show 1 < (⟨2, ![64, n]⟩ : Shape).rank from Nat.lt_succ_self 1)]
  dsimp only
  have hbe : (fun k k' : Fin n => FloatOps.cmpfTotal (F := Ideal) (φ := .f32) .gt
      (x ((ix2 q ⟨j.val, by omega⟩ : (⟨2, ![64, n]⟩ : Shape).Idx).along ⟨1, Nat.lt_succ_self 1⟩ k))
      (x ((ix2 q ⟨j.val, by omega⟩ : (⟨2, ![64, n]⟩ : Shape).Idx).along ⟨1, Nat.lt_succ_self 1⟩ k')) == 1#1) = R := by
    funext k k'
    rw [hal, hal]
  constructor
  · refine (congrArg x (hal _ _)).trans (congrArg x (congrArg (ix2 q) ?_))
    exact congrArg (fun B => sortedFrom B (⟨j.val, by omega⟩ : Fin n)) hbe
  · rw [dif_pos (show 1 < (⟨2, ![64, n]⟩ : Shape).rank from Nat.lt_succ_self 1)]
    refine (congrArg (iotaInDim _ 32 _) (hal _ _)).trans ?_
    exact congrArg (fun B => BitVec.ofNat 32 (sortedFrom B (⟨j.val, by omega⟩ : Fin n)).val) hbe

end Cert.Sorted

end
-- ==== Proof.Vote.lean ====
/-
  The vote on one row of retrieved entries. A lane holds a similarity and an id; it counts when its similarity reaches the
  threshold. A counting lane's score is a million for every counting lane with its id, less its id; the first lane with the
  greatest score wins. The vote looks only at lanes whose similarity is not -∞, so a row of five lanes and a row of eight
  whose last three lanes are empty elect the same id.
-/
module

public import Mathlib.Data.EReal.Basic
public import Mathlib.Data.EReal.Operations
public import Idealize.ShloMosaic.PureOps.Ideal.Laws

@[expose] public section

noncomputable section

namespace Cert.Vote

variable {W : ℕ}

/-- How many counting lanes have lane `l`'s id. -/
def votes (c : EReal) (V : Fin W → EReal) (E : Fin W → ℝ) (l : Fin W) : ℕ :=
  (Finset.univ.filter fun j => c ≤ V j ∧ E j = E l).card

/-- A lane's score: -∞ when it does not count. -/
def score (c : EReal) (V : Fin W → EReal) (E : Fin W → ℝ) (l : Fin W) : EReal :=
  if c ≤ V l then (((votes c V E l : ℝ) * 1000000 - E l : ℝ) : EReal) else ⊥

/-- Lane `p` is the first with the greatest entry. -/
def First (a : Fin W → EReal) (p : Fin W) : Prop := (∀ l, a l ≤ a p) ∧ ∀ l < p, a l ≠ a p

/-- There is one such lane at most. -/
theorem First.unique {a : Fin W → EReal} {p q : Fin W} (hp : First a p) (hq : First a q) : p = q := by
  have he : a p = a q := le_antisymm (hq.1 p) (hp.1 q)
  rcases lt_trichotomy p q with h | h | h
  · exact absurd he (hq.2 p h)
  · exact h
  · exact absurd he.symm (hp.2 q h)

/-- Some lane counts. -/
def Any (c : EReal) (V : Fin W → EReal) : Prop := ∃ l, c ≤ V l

/-- The greatest similarity among the lanes with lane `p`'s id. -/
def peak (V : Fin W → EReal) (E : Fin W → ℝ) (p : Fin W) : EReal :=
  Finset.univ.sup fun l => if E l = E p then V l else ⊥

/-- The score the vote reports when lane `p` wins. -/
def outS (c : EReal) (V : Fin W → EReal) (E : Fin W → ℝ) (p : Fin W) : EReal :=
  open Classical in if Any c V then peak V E p else 0

/-- The class the vote reports when lane `p` wins; `f` turns an id into a word. -/
def outC (f : ℝ → BitVec 32) (c : EReal) (V : Fin W → EReal) (E : Fin W → ℝ) (p : Fin W) : BitVec 32 :=
  open Classical in if Any c V then f (E p) else 4294967295#32

section
variable {c : EReal} {V : Fin 5 → EReal} {E : Fin 5 → ℝ} {V' : Fin 8 → EReal} {E' : Fin 8 → ℝ}

/-- A lane of the row of five, in the row of eight. -/
def up (j : Fin 5) : Fin 8 := ⟨j.val, by omega⟩

/-- A lane of the row of eight is a lane of the row of five or empty. -/
theorem up_or (l : Fin 8) : (∃ j, l = up j) ∨ 5 ≤ l.val := by
  by_cases h : l.val < 5
  · exact .inl ⟨⟨l.val, h⟩, rfl⟩
  · exact .inr (by omega)

/-- Different lanes of the five are different lanes of the eight. -/
theorem up_inj {i j : Fin 5} (h : up i = up j) : i = j := Fin.ext (by simpa [up] using congrArg Fin.val h)

variable (hc : c ≠ ⊥) (hV : ∀ j, V' (up j) = V j) (hpad : ∀ l : Fin 8, 5 ≤ l.val → V' l = ⊥)
  (hE : ∀ j, V j ≠ ⊥ → E' (up j) = E j)
include hc

/-- A counting lane is not empty. -/
theorem ne_bot_of_le {x : EReal} (h : c ≤ x) : x ≠ ⊥ := fun hx => hc (le_bot_iff.1 (hx ▸ h))

include hV hpad

/-- Some lane of the five counts exactly when some lane of the eight does. -/
theorem any_iff : Any c V ↔ Any c V' := by
  constructor
  · rintro ⟨j, hj⟩
    exact ⟨up j, by rw [hV]; exact hj⟩
  · rintro ⟨l, hl⟩
    rcases up_or l with ⟨j, rfl⟩ | h
    · exact ⟨j, by rw [← hV]; exact hl⟩
    · exact absurd (hpad l h) (ne_bot_of_le hc hl)

include hE

/-- Both rows give a counting lane the same votes. -/
theorem votes_up (j : Fin 5) (hj : c ≤ V j) : votes c V' E' (up j) = votes c V E j := by
  unfold votes
  refine (Finset.card_bij (fun i _ => up i) ?_ ?_ ?_).symm
  · intro i hi
    obtain ⟨h1, h2⟩ := (Finset.mem_filter.1 hi).2
    refine Finset.mem_filter.2 ⟨Finset.mem_univ _, by rw [hV]; exact h1, ?_⟩
    rw [hE i (ne_bot_of_le hc h1), hE j (ne_bot_of_le hc hj), h2]
  · intro i _ k _ h
    exact up_inj h
  · intro l hl
    obtain ⟨h1, h2⟩ := (Finset.mem_filter.1 hl).2
    rcases up_or l with ⟨i, rfl⟩ | h
    · rw [hV] at h1
      rw [hE i (ne_bot_of_le hc h1), hE j (ne_bot_of_le hc hj)] at h2
      exact ⟨i, Finset.mem_filter.2 ⟨Finset.mem_univ _, h1, h2⟩, rfl⟩
    · exact absurd (hpad l h) (ne_bot_of_le hc h1)

/-- Both rows give a lane the same score. -/
theorem score_up (j : Fin 5) : score c V' E' (up j) = score c V E j := by
  unfold score
  rw [hV]
  by_cases hj : c ≤ V j
  · rw [if_pos hj, if_pos hj, votes_up hc hV hpad hE j hj, hE j (ne_bot_of_le hc hj)]
  · rw [if_neg hj, if_neg hj]

/-- When some lane counts, both rows elect the same lane. -/
theorem winner_up {p : Fin 5} {p' : Fin 8} (hp : First (score c V E) p) (hp' : First (score c V' E') p')
    (ha : Any c V) : p' = up p ∧ V p ≠ ⊥ := by
  obtain ⟨j, hj⟩ := ha
  have hne : score c V' E' p' ≠ ⊥ := by
    intro h
    have h1 := hp'.1 (up j)
    rw [h, score_up hc hV hpad hE, score, if_pos hj] at h1
    exact EReal.coe_ne_bot _ (le_bot_iff.1 h1)
  have hcount : c ≤ V' p' := by
    by_contra hn
    exact hne (if_neg hn)
  rcases up_or p' with ⟨k, rfl⟩ | h
  · have hk : First (score c V E) k := by
      constructor
      · intro l
        rw [← score_up hc hV hpad hE, ← score_up hc hV hpad hE k]
        exact hp'.1 _
      · intro l hl
        rw [← score_up hc hV hpad hE, ← score_up hc hV hpad hE k]
        exact hp'.2 _ hl
    rw [hp.unique hk]
    exact ⟨rfl, ne_bot_of_le hc (by rw [← hV]; exact hcount)⟩
  · exact absurd (hpad p' h) (ne_bot_of_le hc hcount)

/-- Both rows report the same score. -/
theorem outS_up {p : Fin 5} {p' : Fin 8} (hp : First (score c V E) p) (hp' : First (score c V' E') p') :
    outS c V' E' p' = outS c V E p := by
  unfold outS
  by_cases ha : Any c V
  · rw [if_pos ((any_iff hc hV hpad).1 ha), if_pos ha]
    obtain ⟨rfl, hb⟩ := winner_up hc hV hpad hE hp hp' ha
    unfold peak
    rw [hE p hb]
    apply le_antisymm
    · refine Finset.sup_le fun l _ => ?_
      rcases up_or l with ⟨i, rfl⟩ | h
      · rw [hV]
        by_cases hi : V i = ⊥
        · rw [hi, ite_self]; exact bot_le
        · rw [hE i hi]
          exact Finset.le_sup (f := fun l => if E l = E p then V l else ⊥) (Finset.mem_univ i)
      · rw [hpad l h, ite_self]; exact bot_le
    · refine Finset.sup_le fun i _ => ?_
      by_cases hi : V i = ⊥
      · rw [hi, ite_self]; exact bot_le
      · rw [← hE i hi, ← hV]
        exact Finset.le_sup (f := fun l => if E' l = E p then V' l else ⊥) (Finset.mem_univ (up i))
  · rw [if_neg fun h => ha ((any_iff hc hV hpad).2 h), if_neg ha]

/-- Both rows report the same class. -/
theorem outC_up (f : ℝ → BitVec 32) {p : Fin 5} {p' : Fin 8} (hp : First (score c V E) p)
    (hp' : First (score c V' E') p') : outC f c V' E' p' = outC f c V E p := by
  unfold outC
  by_cases ha : Any c V
  · rw [if_pos ((any_iff hc hV hpad).1 ha), if_pos ha]
    obtain ⟨rfl, hb⟩ := winner_up hc hV hpad hE hp hp' ha
    rw [hE p hb]
  · rw [if_neg fun h => ha ((any_iff hc hV hpad).2 h), if_neg ha]

end

end Cert.Vote

end
-- ==== Proof.RefOps.lean ====
/-
  The reference's operations, read at an index: similarities, the ids of chosen rows, counts, the first greatest entry of a
  row, and the entry of a row at a chosen lane.
-/
module

public import proofs.«01_k».proof.Proof.RefRun
public import proofs.«01_k».proof.Proof.Vote
public import Idealize.ShloMosaic.PureOps.Ideal.Laws
public import Idealize.ShloMosaic.PureOps.Reduce
public import Idealize.ShloMosaic.Lib.ValueIdx
public import Idealize.ShloMosaic.Lib.Pipeline.Value
public import Idealize.ShloMosaic.Lib.StackMember

@[expose] public section

set_option maxRecDepth 16384

noncomputable section

namespace Cert.ReferenceIdeal.Ops

open Cert.ReferenceIdeal Cert.ReferenceIdeal.Gen Idealize.ShloMosaic Idealize.ShloMosaic.ValueIdx
open scoped BigOperators

variable {α : Type}

/-! ## Layout -/

/-- A scalar spread over a shape is that scalar everywhere. -/
theorem scalar_apply {t : Shape} (h : S_.BroadcastsInDim t ![]) (y : S_.Idx → α) (i : t.Idx) :
    broadcastInDim t ![] h y i = y ix0 :=
  broadcastInDim_apply _ h y i ix0 fun a => a.elim0

/-- A matrix with a unit axis added last. -/
theorem tail_apply (y : S64x5.Idx → α) (q : Fin 64) (j : Fin 5) (k : Fin 1) :
    broadcastInDim S64x5x1 ![0, 1] bcast_S64x5_S64x5x1_0_1 y (ix3 q j k) = y (ix2 q j) :=
  broadcastInDim_apply _ _ y _ _ fun a => match a with
    | ⟨0, _⟩ => rfl
    | ⟨1, _⟩ => rfl

/-- A matrix with a unit axis added in the middle. -/
theorem mid_apply (y : S64x5.Idx → α) (q : Fin 64) (j : Fin 1) (k : Fin 5) :
    broadcastInDim S64x1x5 ![0, 2] bcast_S64x5_S64x1x5_0_2 y (ix3 q j k) = y (ix2 q k) :=
  broadcastInDim_apply _ _ y _ _ fun a => match a with
    | ⟨0, _⟩ => rfl
    | ⟨1, _⟩ => rfl

/-- Spreading along the last axis keeps the other coordinates. -/
theorem along_tail_apply (y : S64x5x1.Idx → α) (q : Fin 64) (j k : Fin 5) :
    broadcastInDim S64x5x5 ![0, 1, 2] bcast_S64x5x1_S64x5x5_0_1_2 y (ix3 q j k) = y (ix3 q j 0) :=
  broadcastInDim_apply _ _ y _ _ fun a => match a with
    | ⟨0, _⟩ => rfl
    | ⟨1, _⟩ => rfl
    | ⟨2, _⟩ => rfl

/-- Spreading along the middle axis keeps the other coordinates. -/
theorem along_mid_apply (y : S64x1x5.Idx → α) (q : Fin 64) (j k : Fin 5) :
    broadcastInDim S64x5x5 ![0, 1, 2] bcast_S64x1x5_S64x5x5_0_1_2 y (ix3 q j k) = y (ix3 q 0 k) :=
  broadcastInDim_apply _ _ y _ _ fun a => match a with
    | ⟨0, _⟩ => rfl
    | ⟨1, _⟩ => rfl
    | ⟨2, _⟩ => rfl

/-- A vector as a column. -/
theorem col_apply (y : S64.Idx → α) (q : Fin 64) (k : Fin 1) :
    broadcastInDim S64x1 ![0] bcast_S64_S64x1_0 y (ix2 q k) = y (ix1 q) :=
  broadcastInDim_apply _ _ y _ _ fun a => match a with
    | ⟨0, _⟩ => rfl

/-- A column spread over five lanes. -/
theorem along_col_apply (y : S64x1.Idx → α) (q : Fin 64) (j : Fin 5) :
    broadcastInDim S64x5 ![0, 1] bcast_S64x1_S64x5_0_1 y (ix2 q j) = y (ix2 q 0) :=
  broadcastInDim_apply _ _ y _ _ fun a => match a with
    | ⟨0, _⟩ => rfl
    | ⟨1, _⟩ => rfl

/-- A column as a vector. -/
theorem flat_apply (y : S64x1.Idx → α) (q : Fin 64) : shapeCast S64 y shapeCasts_S64x1_S64 (ix1 q) = y (ix2 q 0) :=
  shapeCast_apply y _ _ _ (by
    rw [Shape.rowMajor_val_one, Shape.rowMajor_val_two]; show q.val * 1 + 0 = q.val; omega)

/-- A column with one more unit axis. -/
theorem deep_apply (y : S64x1.Idx → α) (q : Fin 64) :
    shapeCast S64x1x1 y shapeCasts_S64x1_S64x1x1 (ix3 q 0 0) = y (ix2 q 0) :=
  shapeCast_apply y _ _ _ (by
    rw [Shape.rowMajor_val_two, Shape.rowMajor_val_three]; show q.val * 1 + 0 = (q.val * 1 + 0) * 1 + 0; omega)

/-! ## Similarities and ids -/

/-- The similarity matrix. -/
def sims (x : FVec Ideal S64x64 .f32) (d : FVec Ideal S100000x65 .f32) : FVec Ideal S64x100000 .f32 :=
  Host.dotGeneral dot_S64x64_S64x100000_S64x100000_1_0_0_1_n_n none x
    (transpose S64x100000 [1, 0] (extractStridedSlice S100000x64 ![0, 0] d slices_S100000x65_S100000x64_0_0) transposes_S100000x64_S64x100000_1_0)

/-- A similarity is the sum of the products of a query's and a row's entries. -/
theorem sims_apply (x : FVec Ideal S64x64 .f32) (d : FVec Ideal S100000x65 .f32) (q : Fin 64) (n : Fin 100000) :
    sims x d (ix2 q n) = ∑ k : Fin 64, x (ix2 q k) * d (ix2 n ⟨k.val, by omega⟩) := by
  refine (StackMember.dotGeneral_plain_apply (m := 64) (n := 100000) (k := 64) none x _ q n).trans ?_
  refine Finset.sum_congr rfl fun k _ => congrArg (x (ix2 q k) * ·) ?_
  refine (transpose_apply [1, 0] _ transposes_S100000x64_S64x100000_1_0 (ix2 k n) (ix2 n k) fun b => match b with
    | ⟨0, _⟩ => rfl
    | ⟨1, _⟩ => rfl).trans ?_
  exact extractStridedSlice_apply _ d slices_S100000x65_S100000x64_0_0 _ _ fun a => match a with
    | ⟨0, _⟩ => by show n.val = 0 + n.val; omega
    | ⟨1, _⟩ => by show k.val = 0 + k.val; omega

/-- The database's ids as words. -/
def ids (d : FVec Ideal S100000x65 .f32) : IVec S100000 32 :=
  fptosi 32 (shapeCast S100000 (extractStridedSlice S100000x1 ![0, 64] d slices_S100000x65_S100000x1_0_64) shapeCasts_S100000x1_S100000)

/-- A row's id word is its last entry, converted. -/
theorem ids_apply (d : FVec Ideal S100000x65 .f32) (n : Fin 100000) : ids d (ix1 n) = Ideal.fptosi 32 (d (ix2 n 64)) := by
  show Ideal.fptosi 32 (shapeCast S100000 _ _ (ix1 n)) = _
  refine congrArg (Ideal.fptosi 32) ((shapeCast_apply _ shapeCasts_S100000x1_S100000 (ix1 n) (ix2 n 0) (by
    rw [Shape.rowMajor_val_two, Shape.rowMajor_val_one]; show n.val * 1 + 0 = n.val; omega)).trans ?_)
  exact extractStridedSlice_apply _ d slices_S100000x65_S100000x1_0_64 _ _ fun a => match a with
    | ⟨0, _⟩ => by show n.val = 0 + n.val; omega
    | ⟨1, _⟩ => by show 64 = 64 + 0; omega

/-! ## Words -/

/-- A small number's word reads as the number. -/
theorem toInt_ofNat {n : ℕ} (h : n < 2147483648) : (BitVec.ofNat 32 n).toInt = (n : ℤ) := by
  simp only [BitVec.toInt_eq_toNat_bmod, BitVec.toNat_ofNat, Int.bmod_def]; omega

/-- A position that is not negative is not moved. -/
theorem wrap_ofNat (n : ℕ) (h : n < 2147483648) (w : BitVec 32) :
    Scalar.select (IntOp.cmpi .slt (BitVec.ofNat 32 n) 0#32) w (BitVec.ofNat 32 n) = BitVec.ofNat 32 n := by
  have : IntOp.cmpi .slt (BitVec.ofNat 32 n) 0#32 = 0#1 := by
    show BitVec.ofBool (BitVec.slt (BitVec.ofNat 32 n) 0#32) = 0#1
    have : BitVec.slt (BitVec.ofNat 32 n) 0#32 = false := by
      unfold BitVec.slt
      rw [toInt_ofNat h, decide_eq_false_iff_not]
      simp
    rw [this]; rfl
  rw [this, select_zero]

/-- A position inside the bounds passes the bounds check. -/
theorem inside_ofNat (n m : ℕ) (h : n ≤ m) (hm : m < 2147483648) :
    IntOp.andi (IntOp.cmpi .sge (BitVec.ofNat 32 n) 0#32) (IntOp.cmpi .sle (BitVec.ofNat 32 n) (BitVec.ofNat 32 m)) = 1#1 := by
  have h1 : IntOp.cmpi .sge (BitVec.ofNat 32 n) 0#32 = 1#1 := by
    show BitVec.ofBool (BitVec.sle 0#32 (BitVec.ofNat 32 n)) = 1#1
    have : BitVec.sle 0#32 (BitVec.ofNat 32 n) = true := by
      unfold BitVec.sle
      have h0 : (0 : ℤ) ≤ (BitVec.ofNat 32 n).toInt := by
        rw [toInt_ofNat (by omega)]
        exact Int.natCast_nonneg n
      exact decide_eq_true h0
    rw [this]; rfl
  have h2 : IntOp.cmpi .sle (BitVec.ofNat 32 n) (BitVec.ofNat 32 m) = 1#1 := by
    show BitVec.ofBool (BitVec.sle (BitVec.ofNat 32 n) (BitVec.ofNat 32 m)) = 1#1
    have : BitVec.sle (BitVec.ofNat 32 n) (BitVec.ofNat 32 m) = true := by
      unfold BitVec.sle
      rw [toInt_ofNat (by omega), toInt_ofNat (by omega), decide_eq_true_eq]
      exact_mod_cast h
    rw [this]; rfl
  rw [h1, h2]; rfl

/-! ## Taking ids -/

/-- The positions taken, a negative one counted from the end. -/
def wrapped (k : IVec S64x5 32) : IVec S64x5x1 32 :=
  broadcastInDim S64x5x1 ![0, 1] bcast_S64x5_S64x5x1_0_1
    (select (cmpi .slt k (broadcastInDim S64x5 ![] bcast_S_S64x5 (constantI S_ 32 0#32)))
      (addi k (broadcastInDim S64x5 ![] bcast_S_S64x5 (constantI S_ 32 100000#32))) k)

/-- The words of a table at the positions of `k`. -/
def take (t : IVec S100000 32) (k : IVec S64x5 32) : IVec S64x5 32 :=
  select (Host.reduce IntOp.andi
      (andi (cmpi .sge (wrapped k) (broadcastInDim S64x5x1 ![] bcast_S_S64x5x1 (constantI S_ 32 0#32)))
        (cmpi .sle (wrapped k) (broadcastInDim S64x5x1 ![0, 1, 2] bcast_S1x1x1_S64x5x1_0_1_2
          (broadcastInDim S1x1x1 ![2] bcast_S1_S1x1x1_2 (constantI S1 32 99999#32)))))
      (constantI S_ 1 1#1) reducesTo_S64x5x1_S64x5_d2 h_S_)
    (Host.gather gather_S100000_S64x5x1_S64x5_n_0_n_n_0_2_1 t (wrapped k))
    (broadcastInDim S64x5 ![] bcast_S_S64x5 (constantI S_ 32 2147483648#32))

/-- The unit axis may be reduced away. -/
theorem reduces_5x1 : S64x5x1.Reduces [2] S64x5 := by decide

/-- A conjunction along an axis of one. -/
theorem and_one {s t : Shape} (a : Fin s.rank) (x : IVec s 1) (h' : s.ReducesTo [a] t) (h : s.Reduces [a] t)
    (j : t.Idx) (hx : ∀ c, x (h.lift j c) = 1#1) :
    Host.reduce IntOp.andi x (constantI S_ 1 1#1) h' h_S_ j = 1#1 := by
  rw [Host.reduce_eq_fold_single IntOp.andi x _ h' h h_S_ j]
  have : ∀ S : Finset (Fin (s.size a)), S.fold IntOp.andi (1#1) (x ∘ h.lift j) = 1#1 := by
    intro S
    classical
    induction S using Finset.induction_on with
    | empty => rfl
    | insert c S hc ih =>
      rw [Finset.fold_insert hc, ih]
      show IntOp.andi (x (h.lift j c)) 1#1 = 1#1
      rw [hx]; rfl
  exact this _

/-- Where the gather of one table entry per lane reads its position. -/
theorem takeIdx_eq (q : Fin 64) (j : Fin 5) : takeIdx (ix2 q j) = ix3 q j 0 := funext fun a => Fin.ext <| match a with
  | ⟨0, _⟩ => rfl
  | ⟨1, _⟩ => rfl
  | ⟨2, _⟩ => rfl

/-- A lane that names row `n` gets row `n`'s word. -/
theorem take_apply (t : IVec S100000 32) (k : IVec S64x5 32) (q : Fin 64) (j : Fin 5) (n : Fin 100000)
    (hk : k (ix2 q j) = BitVec.ofNat 32 n.val) : take t k (ix2 q j) = t (ix1 n) := by
  have hn := n.isLt
  have hw : ∀ c : Fin 1, wrapped k (ix3 q j c) = BitVec.ofNat 32 n.val := by
    intro c
    unfold wrapped
    rw [tail_apply, select_apply]
    show Scalar.select (IntOp.cmpi .slt (k (ix2 q j)) (broadcastInDim S64x5 ![] bcast_S_S64x5 (constantI S_ 32 0#32) (ix2 q j))) _
      (k (ix2 q j)) = _
    rw [scalar_apply, hk]
    exact wrap_ofNat n.val (by omega) _
  unfold take
  rw [select_apply, and_one 2 _ reducesTo_S64x5x1_S64x5_d2 reduces_5x1, select_one]
  · refine (gather_take_apply (N := 100000) (R := 64) (C := 5) (by decide) gather_S100000_S64x5x1_S64x5_n_0_n_n_0_2_1_wf t (wrapped k) (ix2 q j)).trans ?_
    refine congrArg t (congrArg ix1 (Fin.ext ?_))
    show min (wrapped k (takeIdx (ix2 q j))).toInt.toNat (100000 - 1) = n.val
    rw [takeIdx_eq, hw, toInt_ofNat (by omega)]
    simp only [Int.toNat_natCast]
    omega
  · intro c
    have hl : reduces_5x1.lift (ix2 q j) c = ix3 q j c := funext fun a => Fin.ext <| match a with
      | ⟨0, _⟩ => rfl
      | ⟨1, _⟩ => rfl
      | ⟨2, _⟩ => rfl
    rw [hl]
    show IntOp.andi (IntOp.cmpi .sge (wrapped k (ix3 q j c)) 0#32) (IntOp.cmpi .sle (wrapped k (ix3 q j c)) 99999#32) = 1#1
    rw [show wrapped k (ix3 q j c) = _ from hw c]
    exact inside_ofNat n.val 99999 (by omega) (by decide)

/-! ## Taking one lane of a row -/

/-- The lane taken of each row, a negative one counted from the end. -/
def lane (p : IVec S64 32) : IVec S64x1x1 32 :=
  shapeCast S64x1x1
    (select (cmpi .slt (broadcastInDim S64x1 ![0] bcast_S64_S64x1_0 p) (broadcastInDim S64x1 ![] bcast_S_S64x1 (constantI S_ 32 0#32)))
      (addi (broadcastInDim S64x1 ![0] bcast_S64_S64x1_0 p) (broadcastInDim S64x1 ![] bcast_S_S64x1 (constantI S_ 32 5#32)))
      (broadcastInDim S64x1 ![0] bcast_S64_S64x1_0 p)) shapeCasts_S64x1_S64x1x1

/-- Each row's word at the lane of `p`. -/
def atLane (a : IVec S64x5 32) (p : IVec S64 32) : IVec S64 32 :=
  shapeCast S64 (select (Host.reduce IntOp.andi
      (andi (cmpi .sge (lane p) (broadcastInDim S64x1x1 ![] bcast_S_S64x1x1 (constantI S_ 32 0#32)))
        (cmpi .sle (lane p) (broadcastInDim S64x1x1 ![0, 1, 2] bcast_S1x1x1_S64x1x1_0_1_2
          (broadcastInDim S1x1x1 ![2] bcast_S1_S1x1x1_2 (constantI S1 32 4#32)))))
      (constantI S_ 1 1#1) reducesTo_S64x1x1_S64x1_d2 h_S_)
    (Host.gather gather_S64x5_S64x1x1_S64x1_n_1_0_0_1_2_11 a (lane p))
    (broadcastInDim S64x1 ![] bcast_S_S64x1 (constantI S_ 32 2147483648#32))) shapeCasts_S64x1_S64

/-- The unit axis may be reduced away. -/
theorem reduces_1x1 : S64x1x1.Reduces [2] S64x1 := by decide

/-- The gather along a row reads the named lane. -/
theorem gather_lane (a : IVec S64x5 32) (k : IVec S64x1x1 32) (q : Fin 64) (l : Fin 5)
    (hk : k (ix3 q 0 0) = BitVec.ofNat 32 l.val) :
    Host.gather gather_S64x5_S64x1x1_S64x1_n_1_0_0_1_2_11 a k (ix2 q 0) = a (ix2 q l) := by
  have hl := l.isLt
  refine congrArg a (funext fun c => Fin.ext ?_)
  show gather_S64x5_S64x1x1_S64x1_n_1_0_0_1_2_11.start (ix2 q 0) k c
    + gather_S64x5_S64x1x1_S64x1_n_1_0_0_1_2_11.batchCoord (ix2 q 0) c
    + gather_S64x5_S64x1x1_S64x1_n_1_0_0_1_2_11.offCoord (ix2 q 0) c = _
  rcases (show c = (0 : Fin 2) ∨ c = (1 : Fin 2) from match c with
    | ⟨0, _⟩ => .inl rfl
    | ⟨1, _⟩ => .inr rfl) with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S64x5_S64x1x1_S64x1_n_1_0_0_1_2_11.operandBatchingDims from List.mem_singleton.mpr rfl)]
    rfl
  · rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S64x5_S64x1x1_S64x1_n_1_0_0_1_2_11.startIndexMap from List.mem_singleton.mpr rfl)]
    have hsi : gather_S64x5_S64x1x1_S64x1_n_1_0_0_1_2_11.siIdx (ix2 q 0)
        ⟨List.idxOf (1 : Fin 2) gather_S64x5_S64x1x1_S64x1_n_1_0_0_1_2_11.startIndexMap,
          List.idxOf_lt_length_iff.2 (List.mem_singleton.mpr rfl)⟩ = ix3 q 0 0 := by
      funext b; refine Fin.ext ?_
      match b with
      | ⟨0, _⟩ => rfl
      | ⟨1, _⟩ => rfl
      | ⟨2, _⟩ => rfl
    refine (congrArg (fun i => min (k i).toInt.toNat (5 - 1)) hsi).trans ?_
    show min (k (ix3 q 0 0)).toInt.toNat (5 - 1) = l.val
    rw [hk, toInt_ofNat (by omega)]
    simp only [Int.toNat_natCast]
    omega

/-- A row whose lane is `l` gets its word at lane `l`. -/
theorem atLane_apply (a : IVec S64x5 32) (p : IVec S64 32) (q : Fin 64) (l : Fin 5)
    (hp : p (ix1 q) = BitVec.ofNat 32 l.val) : atLane a p (ix1 q) = a (ix2 q l) := by
  have hl := l.isLt
  have hw : lane p (ix3 q 0 0) = BitVec.ofNat 32 l.val := by
    unfold lane
    rw [deep_apply, select_apply]
    show Scalar.select (IntOp.cmpi .slt (broadcastInDim S64x1 ![0] bcast_S64_S64x1_0 p (ix2 q 0))
      (broadcastInDim S64x1 ![] bcast_S_S64x1 (constantI S_ 32 0#32) (ix2 q 0))) _ (broadcastInDim S64x1 ![0] bcast_S64_S64x1_0 p (ix2 q 0)) = _
    rw [scalar_apply, col_apply, hp]
    exact wrap_ofNat l.val (by omega) _
  unfold atLane
  rw [flat_apply, select_apply, and_one 2 _ reducesTo_S64x1x1_S64x1_d2 reduces_1x1, select_one]
  · exact gather_lane a (lane p) q l hw
  · intro c
    have hl' : reduces_1x1.lift (ix2 q 0) c = ix3 q 0 0 := funext fun b => Fin.ext <| match b with
      | ⟨0, _⟩ => rfl
      | ⟨1, _⟩ => rfl
      | ⟨2, _⟩ => by show c.val = 0; have h : c.val < 1 := c.isLt; omega
    rw [hl']
    show IntOp.andi (IntOp.cmpi .sge (lane p (ix3 q 0 0)) 0#32) (IntOp.cmpi .sle (lane p (ix3 q 0 0)) 4#32) = 1#1
    rw [hw]
    exact inside_ofNat l.val 4 (by omega) (by decide)

/-! ## Counts -/

/-- Adding up bits counts them. -/
theorem count_fold {W : ℕ} (b : Fin W → Prop) [DecidablePred b] :
    (Finset.univ : Finset (Fin W)).fold IntOp.addi 0#32 (fun l => (BitVec.ofBool (decide (b l))).setWidth 32)
      = BitVec.ofNat 32 (Finset.univ.filter b).card := by
  classical
  have : ∀ S : Finset (Fin W), S.fold IntOp.addi 0#32 (fun l => (BitVec.ofBool (decide (b l))).setWidth 32)
      = BitVec.ofNat 32 (S.filter b).card := by
    intro S
    induction S using Finset.induction_on with
    | empty => rfl
    | insert c S hc ih =>
      rw [Finset.fold_insert hc, ih, Finset.filter_insert]
      by_cases hb : b c
      · rw [if_pos hb, Finset.card_insert_of_notMem fun h => hc (Finset.mem_filter.1 h).1, decide_eq_true hb,
          Nat.add_comm, BitVec.ofNat_add]
        rfl
      · rw [if_neg hb, decide_eq_false hb]
        exact BitVec.zero_add _
  exact this _

/-- The last axis may be reduced away. -/
theorem reduces_5x5 : S64x5x5.Reduces [2] S64x5 := by decide

/-- The lanes may be reduced away. -/
theorem reduces_5 : S64x5.Reduces [1] S64 := by decide

/-- The entry of row `q` that lane `l` of the reduction reads. -/
theorem lift_row (q : Fin 64) (l : Fin 5) : reduces_5.lift (ix1 q) l = ix2 q l := funext fun c => Fin.ext <| match c with
  | ⟨0, _⟩ => rfl
  | ⟨1, _⟩ => rfl

/-- How many lanes pass. -/
def passing (m : IVec S64x5 1) : IVec S64 32 :=
  Host.reduce IntOp.addi (extui 32 m natLt_1_32) (constantI S_ 32 0#32) reducesTo_S64x5_S64_d1 h_S_

/-- The number of passing lanes of a row, as a word. -/
theorem passing_apply (m : IVec S64x5 1) (q : Fin 64) (b : Fin 5 → Prop) [DecidablePred b]
    (hb : ∀ l, m (ix2 q l) = BitVec.ofBool (decide (b l))) :
    passing m (ix1 q) = BitVec.ofNat 32 (Finset.univ.filter b).card := by
  unfold passing
  rw [Host.reduce_eq_fold_single IntOp.addi _ _ reducesTo_S64x5_S64_d1 reduces_5 h_S_ (ix1 q)]
  refine Eq.trans ?_ (count_fold b)
  refine Finset.fold_congr fun l _ => ?_
  have hl : reduces_5.lift (ix1 q) l = ix2 q l := funext fun c => Fin.ext <| match c with
    | ⟨0, _⟩ => rfl
    | ⟨1, _⟩ => rfl
  show (m (reduces_5.lift (ix1 q) l)).setWidth 32 = _
  rw [hl]
  exact congrArg (BitVec.setWidth 32) (hb l)

/-- Whether lane `l` passes and holds lane `j`'s word. -/
def agree (m : IVec S64x5 1) (w : IVec S64x5 32) : IVec S64x5x5 1 :=
  select
    (broadcastInDim S64x5x5 ![0, 1, 2] bcast_S64x1x5_S64x5x5_0_1_2 (broadcastInDim S64x1x5 ![0, 2] bcast_S64x5_S64x1x5_0_2 m))
    (cmpi .eq
      (broadcastInDim S64x5x5 ![0, 1, 2] bcast_S64x5x1_S64x5x5_0_1_2 (broadcastInDim S64x5x1 ![0, 1] bcast_S64x5_S64x5x1_0_1 w))
      (broadcastInDim S64x5x5 ![0, 1, 2] bcast_S64x1x5_S64x5x5_0_1_2 (broadcastInDim S64x1x5 ![0, 2] bcast_S64x5_S64x1x5_0_2 w)))
    (broadcastInDim S64x5x5 ![] bcast_S_S64x5x5 (constantI S_ 1 0#1))

/-- Words are compared entry by entry. -/
theorem words_apply {s : Shape} (x y : IVec s 32) (i : s.Idx) : cmpi .eq x y i = IntOp.cmpi .eq (x i) (y i) := rfl

/-- The bit says that lane `l` passes and holds lane `j`'s word. -/
theorem agree_apply (m : IVec S64x5 1) (w : IVec S64x5 32) (q : Fin 64) (b : Fin 5 → Prop) [DecidablePred b]
    (hb : ∀ l, m (ix2 q l) = BitVec.ofBool (decide (b l))) (j l : Fin 5) :
    agree m w (ix3 q j l) = BitVec.ofBool (decide (b l ∧ w (ix2 q l) = w (ix2 q j))) := by
  unfold agree
  rw [select_apply, along_mid_apply, mid_apply, scalar_apply]
  rw [words_apply, along_tail_apply, tail_apply, along_mid_apply, mid_apply]
  have hcmp : IntOp.cmpi .eq (w (ix2 q j)) (w (ix2 q l)) = BitVec.ofBool (decide (w (ix2 q l) = w (ix2 q j))) := by
    show BitVec.ofBool (w (ix2 q j) == w (ix2 q l)) = _
    by_cases h : w (ix2 q l) = w (ix2 q j)
    · rw [h]; simp
    · rw [decide_eq_false h, beq_eq_false_iff_ne.2 (Ne.symm h)]
  rw [hb, hcmp]
  by_cases h : b l
  · rw [decide_eq_true h]
    refine (select_one _ _).trans ?_
    simp only [h, true_and]
  · rw [decide_eq_false h]
    refine (select_zero _ _).trans ?_
    simp only [h, false_and, decide_false]
    rfl

/-- How many passing lanes hold each lane's word. -/
def counts (m : IVec S64x5 1) (w : IVec S64x5 32) : IVec S64x5 32 :=
  Host.reduce IntOp.addi (extui 32 (agree m w) natLt_1_32) (constantI S_ 32 0#32) reducesTo_S64x5x5_S64x5_d2 h_S_

/-- A count is the number of passing lanes with the lane's word, as a word. -/
theorem counts_apply (m : IVec S64x5 1) (w : IVec S64x5 32) (q : Fin 64) (b : Fin 5 → Prop) [DecidablePred b]
    (hb : ∀ l, m (ix2 q l) = BitVec.ofBool (decide (b l))) (j : Fin 5) :
    counts m w (ix2 q j) = BitVec.ofNat 32 (Finset.univ.filter fun l => b l ∧ w (ix2 q l) = w (ix2 q j)).card := by
  unfold counts
  rw [Host.reduce_eq_fold_single IntOp.addi _ _ reducesTo_S64x5x5_S64x5_d2 reduces_5x5 h_S_ (ix2 q j)]
  refine Eq.trans ?_ (count_fold fun l => b l ∧ w (ix2 q l) = w (ix2 q j))
  refine Finset.fold_congr fun l _ => ?_
  have hl : reduces_5x5.lift (ix2 q j) l = ix3 q j l := funext fun c => Fin.ext <| match c with
    | ⟨0, _⟩ => rfl
    | ⟨1, _⟩ => rfl
    | ⟨2, _⟩ => rfl
  rw [Function.comp_apply, hl]
  exact congrArg (BitVec.setWidth 32) (agree_apply m w q b hb j l)

/-! ## The first greatest entry -/

/-- The lane of each row's first greatest entry. -/
def firstMax (x : FVec Ideal S64x5 .f32) : IVec S64 32 := fun j =>
  (Host.argReduce reducer_argmax_f32_i32 x (iotaInDim S64x5 32 1) (constant S_ .f32 0xFF800000#32) (constantI S_ 32 0#32)
    reducesTo_S64x5_S64_d1 h_S_ j).2

/-- One pair is at least as good as another: a greater value, or the same value at a lane no later. -/
def Good (r x : EReal × BitVec 32) : Prop := x.1 < r.1 ∨ (x.1 = r.1 ∧ r.2.toInt ≤ x.2.toInt)

/-- A pair is as good as itself. -/
theorem Good.refl (r : EReal × BitVec 32) : Good r r := .inr ⟨rfl, le_rfl⟩

/-- Being as good is transitive. -/
theorem Good.trans {a b c : EReal × BitVec 32} (h : Good a b) (h' : Good b c) : Good a c := by
  rcases h with h | ⟨h, i⟩ <;> rcases h' with h' | ⟨h', i'⟩
  · exact .inl (h'.trans h)
  · exact .inl (h' ▸ h)
  · exact .inl (h ▸ h')
  · exact .inr ⟨h'.trans h, i.trans i'⟩

/-- The argmax body keeps one of its two pairs, and that one is as good as both. -/
theorem reducer_good (a b : EReal × BitVec 32) :
    (reducer_argmax_f32_i32 (F := Ideal) a b = a ∨ reducer_argmax_f32_i32 (F := Ideal) a b = b)
      ∧ Good (reducer_argmax_f32_i32 (F := Ideal) a b) a ∧ Good (reducer_argmax_f32_i32 (F := Ideal) a b) b := by
  have hne : FloatOps.cmpf (F := Ideal) (φ := .f32) .une a.1 a.1 = 0#1 := by
    show BitVec.ofBool (decide (a.1 ≠ a.1)) = 0#1
    simp
  have hgt : FloatOps.cmpf (F := Ideal) (φ := .f32) .ogt a.1 b.1 = BitVec.ofBool (decide (b.1 < a.1)) := rfl
  have heq : FloatOps.cmpf (F := Ideal) (φ := .f32) .oeq a.1 b.1 = BitVec.ofBool (decide (a.1 = b.1)) := rfl
  have hlt : IntOp.cmpi .slt a.2 b.2 = BitVec.ofBool (decide (a.2.toInt < b.2.toInt)) := rfl
  unfold reducer_argmax_f32_i32
  dsimp only
  rw [hne, hgt, heq, hlt]
  rcases lt_trichotomy a.1 b.1 with h | h | h
  · rw [decide_eq_false (not_lt.2 h.le), decide_eq_false h.ne]
    have : ∀ c : Bool, (Scalar.select (IntOp.ori (BitVec.ofBool false) 0#1) a.1 b.1,
        Scalar.select (IntOp.ori (IntOp.ori (BitVec.ofBool false) 0#1) (IntOp.andi (BitVec.ofBool false) (BitVec.ofBool c))) a.2 b.2) = b := by
      intro c; cases c <;> rfl
    rw [this]
    exact ⟨.inr rfl, .inl h, Good.refl b⟩
  · rw [decide_eq_false (not_lt.2 h.le : ¬ b.1 < a.1), decide_eq_true h]
    by_cases hi : a.2.toInt < b.2.toInt
    · rw [decide_eq_true hi]
      have : (Scalar.select (IntOp.ori (BitVec.ofBool false) 0#1) a.1 b.1,
          Scalar.select (IntOp.ori (IntOp.ori (BitVec.ofBool false) 0#1) (IntOp.andi (BitVec.ofBool true) (BitVec.ofBool true))) a.2 b.2) = a :=
        Prod.ext h.symm rfl
      rw [this]
      exact ⟨.inl rfl, Good.refl a, .inr ⟨h.symm, hi.le⟩⟩
    · rw [decide_eq_false hi]
      have : (Scalar.select (IntOp.ori (BitVec.ofBool false) 0#1) a.1 b.1,
          Scalar.select (IntOp.ori (IntOp.ori (BitVec.ofBool false) 0#1) (IntOp.andi (BitVec.ofBool true) (BitVec.ofBool false))) a.2 b.2) = b := rfl
      rw [this]
      exact ⟨.inr rfl, .inr ⟨h, not_lt.1 hi⟩, Good.refl b⟩
  · rw [decide_eq_true h, decide_eq_false h.ne']
    have : ∀ c : Bool, (Scalar.select (IntOp.ori (BitVec.ofBool true) 0#1) a.1 b.1,
        Scalar.select (IntOp.ori (IntOp.ori (BitVec.ofBool true) 0#1) (IntOp.andi (BitVec.ofBool false) (BitVec.ofBool c))) a.2 b.2) = a := by
      intro c; cases c <;> rfl
    rw [this]
    exact ⟨.inl rfl, Good.refl a, .inl h⟩

/-- Folding it leaves one of the pairs, as good as every pair. -/
theorem foldl_good (l : List (EReal × BitVec 32)) (r : EReal × BitVec 32) :
    (l.foldl (reducer_argmax_f32_i32 (F := Ideal)) r = r ∨ l.foldl (reducer_argmax_f32_i32 (F := Ideal)) r ∈ l)
      ∧ Good (l.foldl (reducer_argmax_f32_i32 (F := Ideal)) r) r
      ∧ ∀ x ∈ l, Good (l.foldl (reducer_argmax_f32_i32 (F := Ideal)) r) x := by
  induction l generalizing r with
  | nil => exact ⟨.inl rfl, Good.refl r, fun x hx => absurd hx List.not_mem_nil⟩
  | cons a l ih =>
    rw [List.foldl_cons]
    obtain ⟨h1, h2, h3⟩ := ih (reducer_argmax_f32_i32 (F := Ideal) r a)
    obtain ⟨g1, g2, g3⟩ := reducer_good r a
    refine ⟨?_, h2.trans g2, fun x hx => ?_⟩
    · rcases h1 with h1 | h1
      · rcases g1 with g1 | g1
        · exact .inl (h1.trans g1)
        · exact .inr (by rw [h1, g1]; exact List.mem_cons_self)
      · exact .inr (List.mem_cons_of_mem _ h1)
    · rcases List.mem_cons.1 hx with rfl | hx
      · exact h2.trans g3
      · exact h3 x hx

/-- The reference's argmax is the first lane with the greatest entry. -/
theorem firstMax_apply (x : FVec Ideal S64x5 .f32) (q : Fin 64) :
    ∃ p : Fin 5, Vote.First (fun l => x (ix2 q l)) p ∧ firstMax x (ix1 q) = BitVec.ofNat 32 p.val := by
  have hval : firstMax x (ix1 q) = ((Host.argReduceFiber x (iotaInDim S64x5 32 1) reducesTo_S64x5_S64_d1 (ix1 q)).foldl
      (reducer_argmax_f32_i32 (F := Ideal)) ((⊥ : EReal), 0#32)).2 := by
    unfold firstMax
    rw [Ideal.argReduce_eq_reduce2, Host.reduce2_eq_foldl_fiber]
    have : (constant (F := Ideal) S_ .f32 0xFF800000#32 (Shape.Idx.first h_S_), constantI S_ 32 0#32 (Shape.Idx.first h_S_))
        = ((⊥ : EReal), 0#32) := Prod.ext (by show Ideal.ofBits .f32 0xFF800000#32 = ⊥; simp [Ideal.ofBits, Ideal.ieee]) rfl
    rw [this]
  have hmem : ∀ r, r ∈ Host.argReduceFiber x (iotaInDim S64x5 32 1) reducesTo_S64x5_S64_d1 (ix1 q)
      ↔ ∃ l : Fin 5, r = (x (ix2 q l), BitVec.ofNat 32 l.val) := by
    intro r
    unfold Host.argReduceFiber
    rw [List.mem_map]
    constructor
    · rintro ⟨n, hn, rfl⟩
      have hd := of_decide_eq_true (List.mem_filter.1 hn).2
      have hi := (reduces_5.lift_drop (S64x5.rowMajor.symm n)).symm
      rw [show reduces_5.drop (S64x5.rowMajor.symm n) = ix1 q from hd] at hi
      refine ⟨S64x5.rowMajor.symm n 1, ?_⟩
      have hi' := hi.trans (lift_row q (S64x5.rowMajor.symm n 1))
      exact Prod.ext (congrArg x hi') rfl
    · rintro ⟨l, rfl⟩
      refine ⟨S64x5.rowMajor (ix2 q l), List.mem_filter.2 ⟨List.mem_finRange _, decide_eq_true ?_⟩, ?_⟩
      · rw [Equiv.symm_apply_apply, ← lift_row q l]
        exact reduces_5.drop_lift (ix1 q) l
      · rw [Equiv.symm_apply_apply]; rfl
  obtain ⟨h1, h2, h3⟩ := foldl_good (Host.argReduceFiber x (iotaInDim S64x5 32 1) reducesTo_S64x5_S64_d1 (ix1 q)) ((⊥ : EReal), 0#32)
  rw [hval]
  generalize (Host.argReduceFiber x (iotaInDim S64x5 32 1) reducesTo_S64x5_S64_d1 (ix1 q)).foldl
    (reducer_argmax_f32_i32 (F := Ideal)) ((⊥ : EReal), 0#32) = r at h1 h2 h3 ⊢
  have hgood : ∀ l : Fin 5, x (ix2 q l) < r.1 ∨ (x (ix2 q l) = r.1 ∧ r.2.toInt ≤ (l.val : ℤ)) := by
    intro l
    have hl := l.isLt
    have := h3 _ ((hmem _).2 ⟨l, rfl⟩)
    rw [Good, toInt_ofNat (by omega)] at this
    exact this
  have hr : ∃ p : Fin 5, r = (x (ix2 q p), BitVec.ofNat 32 p.val) := by
    rcases h1 with rfl | h1
    · refine ⟨0, Prod.ext ?_ rfl⟩
      rcases hgood 0 with h | ⟨h, -⟩
      · exact absurd h not_lt_bot
      · exact h.symm
    · exact (hmem r).1 h1
  obtain ⟨p, rfl⟩ := hr
  have hp := p.isLt
  refine ⟨p, ⟨fun l => ?_, fun l hl he => ?_⟩, rfl⟩
  · rcases hgood l with h | ⟨h, -⟩
    · exact h.le
    · exact h.le
  · rcases hgood l with h | ⟨-, h⟩
    · exact h.ne he
    · dsimp only at h
      rw [toInt_ofNat (by omega)] at h
      exact absurd (Fin.lt_def.1 hl) (by omega)

/-- A row's greatest entry. -/
theorem max_apply (x : FVec Ideal S64x5 .f32) (q : Fin 64) :
    Host.reduce FloatOps.maximumf x (constant S_ .f32 0xFF800000#32) reducesTo_S64x5_S64_d1 h_S_ (ix1 q)
      = Finset.univ.sup fun l : Fin 5 => x (ix2 q l) := by
  rw [Host.reduce_eq_fold_single FloatOps.maximumf x _ reducesTo_S64x5_S64_d1 reduces_5 h_S_ (ix1 q)]
  have hb : constant (F := Ideal) S_ .f32 0xFF800000#32 (Shape.Idx.first h_S_) = (⊥ : EReal) := by
    show Ideal.ofBits .f32 0xFF800000#32 = ⊥
    simp [Ideal.ofBits, Ideal.ieee]
  rw [hb]
  have hl : x ∘ reduces_5.lift (ix1 q) = fun l : Fin 5 => x (ix2 q l) := funext fun l => congrArg x (funext fun c => Fin.ext <| match c with
    | ⟨0, _⟩ => rfl
    | ⟨1, _⟩ => rfl)
  rw [hl]
  rfl

end Cert.ReferenceIdeal.Ops

end
-- ==== Proof.Decide.lean ====
/-
  The kernel's final stage on one row: the running five, their ids and three empty lanes go through the vote of Vote.lean.
-/
module

public import proofs.«01_k».proof.Proof.Body
public import proofs.«01_k».proof.Proof.Vote

@[expose] public section

set_option maxRecDepth 16384

noncomputable section

namespace Cert.Vote

open Idealize.ShloMosaic
open scoped BigOperators

/-- The similarity a lane has to reach. -/
abbrev threshold : EReal := Ideal.ofBits .f32 0x3F4CCCCD#32

/-- The threshold is not −∞. -/
theorem threshold_ne_bot : threshold ≠ ⊥ := by
  obtain ⟨r, hr⟩ := Rows.ofBits_threshold
  rw [threshold, hr]
  exact EReal.coe_ne_bot r

/-- An id as a word. -/
abbrev word (r : ℝ) : BitVec 32 := Ideal.fptosi 32 (r : EReal)

/-- A sum of reals, as an extended real. -/
theorem coe_sum {W : ℕ} (f : Fin W → ℝ) : ((∑ l, f l : ℝ) : EReal) = ∑ l, (f l : EReal) :=
  map_sum (⟨⟨Real.toEReal, EReal.coe_zero⟩, EReal.coe_add⟩ : ℝ →+ EReal) f Finset.univ

/-- A condition's bit and the bit one. -/
theorem bit_and_true {a b : Prop} [Decidable a] [Decidable b] (h : a ↔ b) :
    IntOp.andi (BitVec.ofBool (decide a)) (BitVec.ofBool true) = BitVec.ofBool (decide b) := by
  by_cases hb : b
  · rw [decide_eq_true hb, decide_eq_true (h.2 hb)]; rfl
  · rw [decide_eq_false hb, decide_eq_false fun ha => hb (h.1 ha)]; rfl

/-- A share of at least one vote is not negative. -/
theorem share_nonneg (a b : ℝ) (ha : 0 ≤ a) (hb : 1 ≤ b) : 0 ≤ Ideal.div (a : EReal) (b : EReal) := by
  rw [Ideal.div, if_neg (by exact_mod_cast (by linarith : b ≠ 0)), ← EReal.coe_inv, ← EReal.coe_mul]
  exact_mod_cast mul_nonneg ha (inv_nonneg.2 (by linarith))

/-- Some lane counts exactly when the number of counting lanes is not zero. -/
theorem any_iff_count {W : ℕ} (c : EReal) (V : Fin W → EReal) :
    Any c V ↔ 0 < (Finset.univ.filter fun l => c ≤ V l).card := by
  rw [Finset.card_pos]
  constructor
  · rintro ⟨l, hl⟩
    exact ⟨l, Finset.mem_filter.2 ⟨Finset.mem_univ l, hl⟩⟩
  · rintro ⟨l, hl⟩
    exact ⟨l, (Finset.mem_filter.1 hl).2⟩

end Cert.Vote

namespace Cert.KernelIdeal.Body

open Idealize.ShloMosaic Idealize.ShloMosaic.ValueIdx Cert.KernelIdeal Cert.KernelIdeal.Gen
open Cert.Vote
open scoped BigOperators

variable (v i : Mat 8) (q : Fin 64)

/-- Row `q`'s similarities. -/
abbrev lanes : Fin 8 → EReal := fun l => v (ix2 q l)

/-- A lane passes exactly when its similarity reaches the threshold. -/
theorem passed_apply (l : Fin 8) : passed v (ix2 q l) = BitVec.ofBool (decide (threshold ≤ v (ix2 q l))) := rfl

/-- What lane `o` adds to every lane's votes. -/
def ballot (o : ℕ) (h : S64x8.Slices ![0, o] S64x1) : Mat 8 :=
  select (broadcastTo S64x8 (shapeCast S64x1 (extractStridedSlice S64x1 ![0, o] (k0_pay3 v) h) shapeCasts_S64x1_S64x1) broadcasts_S64x1_S64x8)
    (sitofp .f32 (extui 32 (cmpf .oeq i (broadcastTo S64x8 (extractStridedSlice S64x1 ![0, o] i h) broadcasts_S64x1_S64x8)) natLt_1_32) : Mat 8)
    (broadcast S64x8 (Scalar.ofBits .f32 0x00000000#32))

/-- The vote count is the sum of the five ballots. -/
theorem votes_eq : votes v i =
    addf (addf (addf (addf (addf (broadcast S64x8 (Scalar.ofBits .f32 0x00000000#32))
      (ballot v i 0 slices_S64x8_o0_0_S64x1)) (ballot v i 1 slices_S64x8_o0_1_S64x1))
      (ballot v i 2 slices_S64x8_o0_2_S64x1)) (ballot v i 3 slices_S64x8_o0_3_S64x1))
      (ballot v i 4 slices_S64x8_o0_4_S64x1) := rfl

/-- A bit as a number. -/
theorem bit_value (b : Prop) [Decidable b] :
    ((((BitVec.ofBool (decide b)).setWidth 32).toInt : ℝ) : EReal) = (((if b then 1 else 0 : ℝ)) : EReal) := by
  by_cases h : b <;> simp [h]

variable (E : Fin 8 → ℝ) (hE : ∀ l, i (ix2 q l) = (E l : EReal))
include hE

/-- A ballot is one when its lane counts and the ids agree, else zero. -/
theorem ballot_apply (o : ℕ) (ho : o < 8) (h : S64x8.Slices ![0, o] S64x1) (l : Fin 8) :
    ballot v i o h (ix2 q l)
      = (((if threshold ≤ lanes v q ⟨o, ho⟩ ∧ E ⟨o, ho⟩ = E l then 1 else 0 : ℝ)) : EReal) := by
  have hbit : (sitofp .f32 (extui 32 (cmpf .oeq i (broadcastTo S64x8 (extractStridedSlice S64x1 ![0, o] i h)
      broadcasts_S64x1_S64x8)) natLt_1_32) : Mat 8) (ix2 q l) = (((if E ⟨o, ho⟩ = E l then 1 else 0 : ℝ)) : EReal) := by
    show ((((BitVec.ofBool (decide (i (ix2 q l) = broadcastTo S64x8 (extractStridedSlice S64x1 ![0, o] i h)
      broadcasts_S64x1_S64x8 (ix2 q l)))).setWidth 32).toInt : ℝ) : EReal) = _
    rw [bit_value, Rows.spread_apply, Rows.lane_apply o ho, hE, hE]
    simp only [EReal.coe_eq_coe_iff, eq_comm]
  unfold ballot
  rw [select_apply, hbit, Rows.spread_apply, shapeCast_apply _ shapeCasts_S64x1_S64x1 (ix2 q 0) (ix2 q 0) rfl,
    Rows.lane_apply o ho]
  have hp : k0_pay3 v (ix2 q ⟨o, ho⟩) = BitVec.ofBool (decide (threshold ≤ lanes v q ⟨o, ho⟩)) := rfl
  rw [hp]
  by_cases h1 : threshold ≤ lanes v q ⟨o, ho⟩
  · rw [decide_eq_true h1]
    refine (select_one _ _).trans ?_
    simp only [h1, true_and]
  · rw [decide_eq_false h1]
    refine (select_zero _ _).trans ?_
    simp only [h1, false_and, if_false]
    exact Ideal.ofBits_zero_f32

variable (hpad : ∀ l : Fin 8, 5 ≤ l.val → v (ix2 q l) = ⊥)
include hpad

/-- The kernel counts the votes. -/
theorem votes_apply (l : Fin 8) : votes v i (ix2 q l) = ((Vote.votes threshold (lanes v q) E l : ℝ) : EReal) := by
  have hno : ∀ j : Fin 8, 5 ≤ j.val → ¬ threshold ≤ lanes v q j := fun j hj h =>
    ne_bot_of_le threshold_ne_bot h (hpad j hj)
  rw [votes_eq]
  show ((((Ideal.ofBits .f32 0x00000000#32 + ballot v i 0 _ (ix2 q l)) + ballot v i 1 _ (ix2 q l)) + ballot v i 2 _ (ix2 q l))
    + ballot v i 3 _ (ix2 q l)) + ballot v i 4 _ (ix2 q l) = _
  rw [ballot_apply v i q E hE 0 (by decide), ballot_apply v i q E hE 1 (by decide), ballot_apply v i q E hE 2 (by decide),
    ballot_apply v i q E hE 3 (by decide), ballot_apply v i q E hE 4 (by decide), Ideal.ofBits_zero_f32, zero_add]
  unfold Vote.votes
  rw [Finset.card_filter]
  push_cast
  rw [Fin.sum_univ_eight]
  simp only [← EReal.coe_add, EReal.coe_eq_coe_iff]
  rw [if_neg (show ¬ (threshold ≤ lanes v q 5 ∧ E 5 = E l) from fun h => hno 5 (by decide) h.1),
    if_neg (show ¬ (threshold ≤ lanes v q 6 ∧ E 6 = E l) from fun h => hno 6 (by decide) h.1),
    if_neg (show ¬ (threshold ≤ lanes v q 7 ∧ E 7 = E l) from fun h => hno 7 (by decide) h.1), add_zero, add_zero, add_zero]

/-- The kernel's ranks are the scores. -/
theorem rank_apply (l : Fin 8) : rank v i (ix2 q l) = score threshold (lanes v q) E l := by
  unfold rank
  rw [select_apply, passed_apply]
  unfold score
  by_cases h : threshold ≤ lanes v q l
  · rw [decide_eq_true h, if_pos h]
    refine (select_one _ _).trans ?_
    show votes v i (ix2 q l) * Ideal.ofBits .f32 0x49742400#32 - i (ix2 q l) = _
    rw [votes_apply v i q E hE hpad, Rows.ofBits_million, hE, ← EReal.coe_mul, ← EReal.coe_sub]
  · rw [decide_eq_false h, if_neg h]
    exact (select_zero _ _).trans Rows.ofBits_bot

omit hE hpad in
/-- How many lanes pass. -/
theorem passing_apply :
    shapeCast S64x1 (multiReduction .add [1] S64 (sitofp .f32 (extui 32 (passed v) natLt_1_32) : Mat 8) 0x00000000#32
      reduces_S64x8_S64 (.inl rfl) rfl) shapeCasts_S64_S64x1 (ix2 q 0)
      = (((Finset.univ.filter fun l => threshold ≤ lanes v q l).card : ℝ) : EReal) := by
  rw [Rows.cast_apply, Rows.add_row]
  rw [Finset.card_filter]
  push_cast
  rw [coe_sum]
  exact Finset.sum_congr rfl fun l _ => bit_value _

/-- The kernel's vote on row `q`. -/
theorem decided : ∃ p : Fin 8, First (score threshold (lanes v q) E) p
    ∧ outS v i (ix2 q 0) = Vote.outS threshold (lanes v q) E p
    ∧ outC v i (ix2 q 0) = Vote.outC word threshold (lanes v q) E p := by
  classical
  obtain ⟨p, hmax, hfirst, -, -, -, hsel⟩ := Rows.round reduces_S64x8_S64 shapeCasts_S64_S64x1 broadcasts_S64x1_S64x8
    iota_S64x8_d1_w32 (by decide) (rank v i) q
  have hwin : ∀ x : Mat 8, win v i x (ix2 q 0) = x (ix2 q p) := hsel
  have hp : First (score threshold (lanes v q) E) p := by
    constructor
    · intro l
      rw [← rank_apply v i q E hE hpad, ← rank_apply v i q E hE hpad]
      exact hmax l
    · intro l hl
      rw [← rank_apply v i q E hE hpad, ← rank_apply v i q E hE hpad]
      exact hfirst l hl
  have hacc : accepts v i (ix2 q 0) = BitVec.ofBool (decide (Any threshold (lanes v q))) := by
    unfold accepts
    show IntOp.andi (BitVec.ofBool (decide ((Ideal.ofBits .f32 0x00000000#32 : EReal) < shapeCast S64x1 _ _ (ix2 q 0))))
      (BitVec.ofBool (decide ((Ideal.ofBits .f32 0x00000000#32 : EReal)
        ≤ Ideal.div (win v i (votes v i) (ix2 q 0)) (max (shapeCast S64x1 _ _ (ix2 q 0)) (Ideal.ofBits .f32 0x3F800000#32))))) = _
    rw [passing_apply, hwin, votes_apply v i q E hE hpad, Ideal.ofBits_zero_f32, Rows.ofBits_one, ← EReal.coe_one,
      ← EReal.coe_strictMono.monotone.map_max, decide_eq_true (share_nonneg _ _ (Nat.cast_nonneg _) (le_max_right _ _))]
    have : ((0 : EReal) < (((Finset.univ.filter fun l => threshold ≤ lanes v q l).card : ℝ) : EReal))
        ↔ 0 < (Finset.univ.filter fun l => threshold ≤ lanes v q l).card := by
      rw [← EReal.coe_zero, EReal.coe_lt_coe_iff, Nat.cast_pos]
    exact bit_and_true (this.trans (any_iff_count _ _).symm)
  refine ⟨p, hp, ?_, ?_⟩
  · unfold outS Vote.outS
    rw [select_apply, hacc]
    by_cases ha : Any threshold (lanes v q)
    · rw [decide_eq_true ha, if_pos ha]
      refine (select_one _ _).trans ?_
      unfold Rows.top peak
      rw [Rows.cast_apply, Rows.max_row]
      refine Finset.sup_congr rfl fun l _ => ?_
      rw [select_apply]
      have hm : cmpf .oeq i (broadcastTo S64x8 (win v i i) broadcasts_S64x1_S64x8) (ix2 q l)
          = BitVec.ofBool (decide (E l = E p)) := by
        show BitVec.ofBool (decide (i (ix2 q l) = broadcastTo S64x8 (win v i i) broadcasts_S64x1_S64x8 (ix2 q l))) = _
        rw [Rows.spread_apply, hwin, hE, hE]
        simp only [EReal.coe_eq_coe_iff]
      rw [hm]
      by_cases he : E l = E p
      · rw [decide_eq_true he, if_pos he]; exact select_one _ _
      · rw [decide_eq_false he, if_neg he]; exact (select_zero _ _).trans Rows.ofBits_bot
    · rw [decide_eq_false ha, if_neg ha]
      exact (select_zero _ _).trans Ideal.ofBits_zero_f32
  · unfold outC Vote.outC
    rw [select_apply, hacc]
    by_cases ha : Any threshold (lanes v q)
    · rw [decide_eq_true ha, if_pos ha]
      refine (select_one _ _).trans ?_
      show Ideal.fptosi 32 (win v i i (ix2 q 0)) = _
      rw [hwin, hE]
    · rw [decide_eq_false ha, if_neg ha]
      exact select_zero _ _

end Cert.KernelIdeal.Body

end
-- ==== Proof.RefVote.lean ====
/-
  The reference's final stage on one row: the five retrieved similarities and the words of their ids go through the vote of
  Vote.lean.
-/
module

public import proofs.«01_k».proof.Proof.RefOps
public import proofs.«01_k».proof.Proof.Decide

@[expose] public section

set_option maxRecDepth 16384

noncomputable section

namespace Cert.ReferenceIdeal.Elect

open Cert.ReferenceIdeal Cert.ReferenceIdeal.Gen Cert.ReferenceIdeal.Ops Idealize.ShloMosaic Idealize.ShloMosaic.ValueIdx
open Cert.Vote
open scoped BigOperators

variable (v : FVec Ideal S64x5 .f32) (w : IVec S64x5 32)

/-- Which lanes reach the threshold. -/
def passed : IVec S64x5 1 := cmpf .oge v (broadcastInDim S64x5 ![] bcast_S_S64x5 (constant S_ .f32 0x3F4CCCCD#32))

/-- The lanes' scores. -/
def ranks : FVec Ideal S64x5 .f32 :=
  select (passed v)
    (subf (mulf (sitofp .f32 (counts (passed v) w)) (broadcastInDim S64x5 ![] bcast_S_S64x5 (constant S_ .f32 0x49742400#32)))
      (sitofp .f32 w))
    (broadcastInDim S64x5 ![] bcast_S_S64x5 (constant S_ .f32 0xFF800000#32))

/-- The winning lane. -/
def winner : IVec S64 32 := firstMax (ranks v w)

/-- Whether the vote is accepted. -/
def accepted : IVec S64 1 :=
  andi (cmpi .sgt (passing (passed v)) (broadcastInDim S64 ![] bcast_S_S64 (constantI S_ 32 0#32)))
    (cmpf .oge
      (Host.divf (sitofp .f32 (atLane (counts (passed v) w) (winner v w)))
        (sitofp .f32 (maxsi (passing (passed v)) (broadcastInDim S64 ![] bcast_S_S64 (constantI S_ 32 1#32)))))
      (broadcastInDim S64 ![] bcast_S_S64 (constant (F := Ideal) S_ .f32 0x00000000#32)))

/-- The winner's similarities, −∞ elsewhere. -/
def mine : FVec Ideal S64x5 .f32 :=
  select (cmpi .eq w (broadcastInDim S64x5 ![0, 1] bcast_S64x1_S64x5_0_1
      (broadcastInDim S64x1 ![0] bcast_S64_S64x1_0 (atLane w (winner v w)))))
    v (broadcastInDim S64x5 ![] bcast_S_S64x5 (constant S_ .f32 0xFF800000#32))

/-- The scores the reference reports. -/
def scores : FVec Ideal S64 .f32 :=
  select (accepted v w)
    (Host.reduce FloatOps.maximumf (mine v w) (constant S_ .f32 0xFF800000#32) reducesTo_S64x5_S64_d1 h_S_)
    (broadcastInDim S64 ![] bcast_S_S64 (constant S_ .f32 0x00000000#32))

/-- The classes the reference reports. -/
def classes : IVec S64 32 :=
  select (accepted v w) (atLane w (winner v w)) (broadcastInDim S64 ![] bcast_S_S64 (constantI S_ 32 4294967295#32))

section

variable {s : Shape}

/-- Differences entry by entry. -/
theorem sub_at (x y : FVec Ideal s .f32) (i : s.Idx) : subf x y i = x i - y i := rfl

/-- Products entry by entry. -/
theorem mul_at (x y : FVec Ideal s .f32) (i : s.Idx) : mulf x y i = x i * y i := rfl

/-- Quotients entry by entry. -/
theorem div_at (x y : FVec Ideal s .f32) (i : s.Idx) : Host.divf x y i = Ideal.div (x i) (y i) := rfl

/-- A word's value entry by entry. -/
theorem value_at (x : IVec s 32) (i : s.Idx) : sitofp (F := Ideal) .f32 x i = (((x i).toInt : ℝ) : EReal) := rfl

/-- Greater words entry by entry. -/
theorem max_at (x y : IVec s 32) (i : s.Idx) : maxsi x y i = IntOp.maxsi (x i) (y i) := rfl

/-- Comparisons of words entry by entry. -/
theorem more_at (x y : IVec s 32) (i : s.Idx) : cmpi .sgt x y i = IntOp.cmpi .sgt (x i) (y i) := rfl

/-- Conjunctions entry by entry. -/
theorem and_at (x y : IVec s 1) (i : s.Idx) : andi x y i = IntOp.andi (x i) (y i) := rfl

/-- Comparisons of numbers entry by entry. -/
theorem share_at (x y : FVec Ideal s .f32) (i : s.Idx) : cmpf .oge x y i = BitVec.ofBool (decide (y i ≤ x i)) := rfl

end

variable (q : Fin 64)

/-- Row `q`'s similarities. -/
abbrev lanes : Fin 5 → EReal := fun l => v (ix2 q l)

/-- A lane passes exactly when its similarity reaches the threshold. -/
theorem passed_apply (l : Fin 5) : passed v (ix2 q l) = BitVec.ofBool (decide (threshold ≤ lanes v q l)) := by
  unfold passed
  rw [cmpf_apply, scalar_apply]
  rfl

/-- At most five lanes pass. -/
theorem card_le (b : Fin 5 → Prop) [DecidablePred b] : (Finset.univ.filter b).card ≤ 5 :=
  (Finset.card_le_univ _).trans (le_of_eq (Fintype.card_fin 5))

variable (E : Fin 5 → ℝ) (hw : ∀ l, w (ix2 q l) = word (E l)) (ht : ∀ l, ((word (E l)).toInt : ℝ) = E l)
include hw ht

/-- Two lanes' words agree exactly when their ids do. -/
theorem word_iff (l j : Fin 5) : w (ix2 q l) = w (ix2 q j) ↔ E l = E j := by
  rw [hw, hw]
  constructor
  · intro h
    rw [← ht l, ← ht j, h]
  · intro h
    rw [h]

/-- The reference counts the votes. -/
theorem counts_eq (j : Fin 5) :
    counts (passed v) w (ix2 q j) = BitVec.ofNat 32 (votes threshold (lanes v q) E j) := by
  rw [counts_apply (passed v) w q (fun l => threshold ≤ lanes v q l) (passed_apply v q) j]
  refine congrArg (BitVec.ofNat 32) ?_
  unfold votes
  refine congrArg Finset.card (Finset.filter_congr fun l _ => ?_)
  rw [word_iff w q E hw ht l j]

/-- A vote count's word reads as the count. -/
theorem votes_toInt (j : Fin 5) :
    (BitVec.ofNat 32 (votes threshold (lanes v q) E j)).toInt = (votes threshold (lanes v q) E j : ℤ) :=
  toInt_ofNat (lt_of_le_of_lt (card_le _) (by decide))

/-- The reference's ranks are the scores. -/
theorem ranks_apply (l : Fin 5) : ranks v w (ix2 q l) = score threshold (lanes v q) E l := by
  unfold ranks
  rw [select_apply, passed_apply, scalar_apply]
  unfold score
  by_cases h : threshold ≤ lanes v q l
  · rw [decide_eq_true h, if_pos h]
    refine (select_one _ _).trans ?_
    rw [sub_at, mul_at, value_at, value_at, scalar_apply]
    show (((counts (passed v) w (ix2 q l)).toInt : ℝ) : EReal) * Ideal.ofBits .f32 0x49742400#32
      - (((w (ix2 q l)).toInt : ℝ) : EReal) = _
    rw [counts_eq v w q E hw ht, votes_toInt v w q E hw ht, Rows.ofBits_million, hw, ht, ← EReal.coe_mul, ← EReal.coe_sub]
    norm_cast
  · rw [decide_eq_false h, if_neg h]
    exact (select_zero _ _).trans Rows.ofBits_bot

/-- The reference's vote on row `q`. -/
theorem decided : ∃ p : Fin 5, First (score threshold (lanes v q) E) p
    ∧ scores v w (ix1 q) = Vote.outS threshold (lanes v q) E p
    ∧ classes v w (ix1 q) = Vote.outC word threshold (lanes v q) E p := by
  classical
  obtain ⟨p, hp, hlane⟩ := firstMax_apply (ranks v w) q
  have hp' : First (score threshold (lanes v q) E) p := by
    constructor
    · intro l
      rw [← ranks_apply v w q E hw ht, ← ranks_apply v w q E hw ht]
      exact hp.1 l
    · intro l hl
      rw [← ranks_apply v w q E hw ht, ← ranks_apply v w q E hw ht]
      exact hp.2 l hl
  have hat : ∀ a : IVec S64x5 32, atLane a (winner v w) (ix1 q) = a (ix2 q p) := fun a => atLane_apply a _ q p hlane
  have hnum : passing (passed v) (ix1 q) = BitVec.ofNat 32 (Finset.univ.filter fun l => threshold ≤ lanes v q l).card :=
    Ops.passing_apply (passed v) q (fun l => threshold ≤ lanes v q l) (passed_apply v q)
  have hcard := card_le fun l => threshold ≤ lanes v q l
  have hint : (passing (passed v) (ix1 q)).toInt = ((Finset.univ.filter fun l => threshold ≤ lanes v q l).card : ℤ) := by
    rw [hnum]
    exact toInt_ofNat (lt_of_le_of_lt hcard (by decide))
  have hmax : (1 : ℝ) ≤ ((IntOp.maxsi (passing (passed v) (ix1 q)) 1#32).toInt : ℝ) := by
    have : (1 : ℤ) ≤ (IntOp.maxsi (passing (passed v) (ix1 q)) 1#32).toInt := by
      have h1 : (1#32 : BitVec 32).toInt = 1 := by decide
      unfold IntOp.maxsi
      split
      · next h => rw [hint]; simp [BitVec.slt, hint, h1] at h; omega
      · exact le_of_eq h1.symm
    exact_mod_cast this
  have hacc : accepted v w (ix1 q) = BitVec.ofBool (decide (Any threshold (lanes v q))) := by
    unfold accepted
    rw [and_at, more_at, share_at, div_at, value_at, value_at, max_at, scalar_apply, scalar_apply, scalar_apply, hat,
      counts_eq v w q E hw ht, votes_toInt v w q E hw ht]
    have hz : constant (F := Ideal) S_ .f32 0x00000000#32 ix0 = (0 : EReal) := Ideal.ofBits_zero_f32
    rw [hz]
    have hs : (0 : EReal) ≤ Ideal.div (((votes threshold (lanes v q) E p : ℤ) : ℝ) : EReal)
        (((IntOp.maxsi (passing (passed v) (ix1 q)) (constantI S_ 32 1#32 ix0)).toInt : ℝ) : EReal) :=
      share_nonneg _ _ (by exact_mod_cast Nat.zero_le _) hmax
    rw [decide_eq_true hs]
    have hgt : IntOp.cmpi .sgt (passing (passed v) (ix1 q)) (constantI S_ 32 0#32 ix0)
        = BitVec.ofBool (decide (0 < (Finset.univ.filter fun l => threshold ≤ lanes v q l).card)) := by
      show BitVec.ofBool (decide ((0#32 : BitVec 32).toInt < (passing (passed v) (ix1 q)).toInt)) = _
      rw [hint, show (0#32 : BitVec 32).toInt = 0 from rfl]
      exact congrArg BitVec.ofBool (decide_eq_decide.2 Int.natCast_pos)
    rw [hgt]
    exact bit_and_true (any_iff_count _ _).symm
  refine ⟨p, hp', ?_, ?_⟩
  · unfold scores Vote.outS
    rw [select_apply, hacc, scalar_apply]
    by_cases ha : Any threshold (lanes v q)
    · rw [decide_eq_true ha, if_pos ha]
      refine (select_one _ _).trans ?_
      unfold peak
      rw [Ops.max_apply]
      refine Finset.sup_congr rfl fun l _ => ?_
      unfold mine
      rw [select_apply, scalar_apply]
      have hm : cmpi .eq w (broadcastInDim S64x5 ![0, 1] bcast_S64x1_S64x5_0_1
          (broadcastInDim S64x1 ![0] bcast_S64_S64x1_0 (atLane w (winner v w)))) (ix2 q l) = BitVec.ofBool (decide (E l = E p)) := by
        rw [words_apply, along_col_apply, col_apply, hat]
        show BitVec.ofBool (w (ix2 q l) == w (ix2 q p)) = _
        by_cases he : E l = E p
        · rw [decide_eq_true he, (word_iff w q E hw ht l p).2 he, beq_self_eq_true]
        · rw [decide_eq_false he, beq_eq_false_iff_ne.2 fun h => he ((word_iff w q E hw ht l p).1 h)]
      rw [hm]
      by_cases he : E l = E p
      · rw [decide_eq_true he, if_pos he]; exact select_one _ _
      · rw [decide_eq_false he, if_neg he]; exact (select_zero _ _).trans Rows.ofBits_bot
    · rw [decide_eq_false ha, if_neg ha]
      exact (select_zero _ _).trans Ideal.ofBits_zero_f32
  · unfold classes Vote.outC
    rw [select_apply, hacc, scalar_apply]
    by_cases ha : Any threshold (lanes v q)
    · rw [decide_eq_true ha, if_pos ha]
      refine (select_one _ _).trans ?_
      rw [hat, hw]
    · rw [decide_eq_false ha, if_neg ha]
      exact select_zero _ _

end Cert.ReferenceIdeal.Elect

end
-- ==== Proof.Ids.lean ====
/-
  What the precondition says: every id of the database is a whole number that 32 bits hold; and such an id as a word.
-/
module

public import proofs.«01_k».proof.Defs
public import proofs.«01_k».proof.Proof.RefOps
public import proofs.«01_k».proof.Proof.Decide

@[expose] public section

set_option maxRecDepth 16384

noncomputable section

namespace Cert.Ids

open Idealize.ShloMosaic Idealize.ShloMosaic.ValueIdx
open Cert.Vote

/-- The precondition's shape relations. -/
theorem facts : Cert.Pre_ids_are_int32.Facts :=
  ⟨Cert.ReferenceIdeal.Gen.slices_S100000x65_S100000x1_0_64, Cert.ReferenceIdeal.Gen.shapeCasts_S100000x1_S100000, by decide⟩

/-- The number `x` is whole and 32 bits hold it. -/
def Whole (x : EReal) : Prop := ∃ z : ℤ, -2147483648 ≤ z ∧ z < 2147483648 ∧ x = ((z : ℝ) : EReal)

/-- Two bits whose conjunction is one are one. -/
theorem both_one : ∀ a b : BitVec 1, IntOp.andi a b = 1#1 → a = 1#1 ∧ b = 1#1 := by decide

/-- A condition whose bit is one holds. -/
theorem of_bit {p : Prop} [Decidable p] (h : BitVec.ofBool (decide p) = 1#1) : p := by
  by_contra hp
  rw [decide_eq_false hp] at h
  exact absurd h (by decide)

/-- The lower bound's word denotes -2147483648. -/
theorem ofBits_low : Ideal.ofBits .f32 0xCF000000#32 = ((-2147483648 : ℝ) : EReal) := by
  simp [Ideal.ofBits, Ideal.ieee, -EReal.coe_mul]; norm_num

/-- The upper bound's word denotes 2147483648. -/
theorem ofBits_high : Ideal.ofBits .f32 0x4F000000#32 = ((2147483648 : ℝ) : EReal) := by
  simp [Ideal.ofBits, Ideal.ieee, -EReal.coe_mul]; norm_num

/-- A value in the range that equals its floor is whole. -/
theorem whole_of (x : EReal) (hlo : ((-2147483648 : ℝ) : EReal) ≤ x) (hhi : x < ((2147483648 : ℝ) : EReal))
    (hfl : Ideal.liftRound Int.floor x = x) : Whole x := by
  induction x using EReal.rec with
  | bot => exact absurd (le_bot_iff.1 hlo) (EReal.coe_ne_bot _)
  | top => exact absurd hhi not_top_lt
  | coe r =>
    rw [Ideal.liftRound_coe, EReal.coe_eq_coe_iff] at hfl
    refine ⟨⌊r⌋, ?_, ?_, by rw [hfl]⟩
    · have := EReal.coe_le_coe_iff.1 hlo
      rw [← hfl] at this
      exact_mod_cast this
    · have := EReal.coe_lt_coe_iff.1 hhi
      rw [← hfl] at this
      exact_mod_cast this

/-- The precondition read at one database row. -/
theorem whole_of_pre [Cert.Pre_ids_are_int32.Facts] (a0 : FVec Ideal Cert.Pre_ids_are_int32.S64x4 .f32)
    (a1 : FVec Ideal Cert.Pre_ids_are_int32.S64 .f32) (a2 : IVec Cert.Pre_ids_are_int32.S64 32)
    (a3 : FVec Ideal Cert.Pre_ids_are_int32.S64x64 .f32) (a4 : FVec Ideal Cert.Pre_ids_are_int32.S100000x65 .f32)
    (h : Cert.Pre_ids_are_int32.fn a0 a1 a2 a3 a4 = fun _ => 1#1) (n : Fin 100000) : Whole (a4 (ix2 n 64)) := by
  have hn := congrFun h (ix1 n)
  unfold Cert.Pre_ids_are_int32.fn at hn
  dsimp only at hn
  obtain ⟨h12, h3⟩ := both_one _ _ hn
  obtain ⟨h1, h2⟩ := both_one _ _ h12
  have hx : shapeCast Cert.Pre_ids_are_int32.S100000
      (extractStridedSlice Cert.Pre_ids_are_int32.S100000x1 ![0, 64] a4
        Cert.Pre_ids_are_int32.Facts.slices_S100000x65_S100000x1_0_64)
      Cert.Pre_ids_are_int32.Facts.shapeCasts_S100000x1_S100000 (ix1 n) = a4 (ix2 n 64) := by
    refine (shapeCast_apply _ _ (ix1 n) (ix2 n 0) (by
      rw [Shape.rowMajor_val_two, Shape.rowMajor_val_one]; show n.val * 1 + 0 = n.val; omega)).trans ?_
    exact extractStridedSlice_apply _ a4 _ _ _ fun a => match a with
      | ⟨0, _⟩ => by show n.val = 0 + n.val; omega
      | ⟨1, _⟩ => rfl
  generalize shapeCast Cert.Pre_ids_are_int32.S100000 _ _ = y at h1 h2 h3 hx
  rw [cmpf_apply, broadcastInDim_apply _ _ _ _ ix0 fun a => a.elim0] at h1 h2
  have e1 : Ideal.ofBits .f32 0xCF000000#32 ≤ y (ix1 n) := of_bit h1
  have e2 : y (ix1 n) < Ideal.ofBits .f32 0x4F000000#32 := of_bit h2
  have e3 : Ideal.liftRound Int.floor (y (ix1 n)) = y (ix1 n) := of_bit h3
  rw [ofBits_low] at e1
  rw [ofBits_high] at e2
  rw [← hx]
  exact whole_of _ e1 e2 e3

/-- A whole id's word reads as the id. -/
theorem word_toInt (z : ℤ) (hlo : -2147483648 ≤ z) (hhi : z < 2147483648) : (word (z : ℝ)).toInt = z := by
  have hz : word (z : ℝ) = BitVec.ofInt 32 z := by
    show BitVec.ofInt 32 (Ideal.toIntClamped _ _ _) = _
    rw [Ideal.toIntClamped_coe, Int.floor_intCast, Int.ceil_intCast, ite_self]
    congr 1
    norm_num
    omega
  rw [hz, BitVec.toInt_ofInt]
  norm_num [Int.bmod]
  omega

end Cert.Ids

end
-- ==== Proof.Agree.lean ====
/-
  Row by row, the kernel's vote and the reference's vote are the same vote: the kernel's running five are the reference's
  sorted five, up to lanes whose similarity is -∞.
-/
module

public import proofs.«01_k».proof.Proof.Chain
public import proofs.«01_k».proof.Proof.Sorted
public import proofs.«01_k».proof.Proof.RefVote
public import proofs.«01_k».proof.Proof.Ids

@[expose] public section

set_option maxRecDepth 16384

noncomputable section

namespace Cert.Agree

open Idealize.ShloMosaic Idealize.ShloMosaic.ValueIdx
open Cert.Pick Cert.Vote
open Cert.KernelIdeal.Body (sim idOf queries places final final_row)

/-- Two listings of one rank agree: in the value, and in the position unless the value is −∞. -/
theorem same_rank {v w : EReal} {a b : ℕ}
    (h : (if v = ⊥ then none else some (key v a)) = if w = ⊥ then none else some (key w b)) : v = w ∧ (w ≠ ⊥ → a = b) := by
  by_cases hv : v = ⊥
  · by_cases hw : w = ⊥
    · exact ⟨hv.trans hw.symm, fun h => absurd hw h⟩
    · rw [if_pos hv, if_neg hw] at h
      exact absurd h (by simp)
  · by_cases hw : w = ⊥
    · rw [if_neg hv, if_pos hw] at h
      exact absurd h (by simp)
    · rw [if_neg hv, if_neg hw] at h
      obtain ⟨h1, h2⟩ := key_inj.1 (Option.some.inj h)
      exact ⟨h1, fun _ => h2⟩

section

open Cert.ReferenceIdeal Cert.ReferenceIdeal.Gen

variable (x : FVec Ideal S64x64 .f32) (d : FVec Ideal S100000x65 .f32)

/-- The reference's five greatest similarities. -/
def five : FVec Ideal S64x5 .f32 :=
  (Host.topK S64x5 1 (FloatOps.cmpfTotal .gt) (Ops.sims x d) sliceFits_S64x100000_S64x5).1

/-- Their rows' ids as words. -/
def fiveIds : IVec S64x5 32 :=
  Ops.take (Ops.ids d) (Host.topK S64x5 1 (FloatOps.cmpfTotal .gt) (Ops.sims x d) sliceFits_S64x100000_S64x5).2

end

variable (m : (ℓ : Loc Cert.KernelIdeal.nD Cert.KernelIdeal.τ Cert.KernelIdeal.sig) → Buf (Elt Ideal) ℓ)

/-- On every row both programs report the same score and the same class. -/
theorem row (c : Dev Cert.KernelIdeal.nD) (hids : ∀ n : Fin 100000, Ids.Whole (places m c (ix2 n 64))) (q : Fin 64) :
    Cert.KernelIdeal.Body.outS (final m c).1 (final m c).2 (ix2 q 0)
        = Cert.ReferenceIdeal.Elect.scores (five (queries m c) (places m c)) (fiveIds (queries m c) (places m c)) (ix1 q)
      ∧ Cert.KernelIdeal.Body.outC (final m c).1 (final m c).2 (ix2 q 0)
        = Cert.ReferenceIdeal.Elect.classes (five (queries m c) (places m c)) (fiveIds (queries m c) (places m c)) (ix1 q) := by
  have hreal : ∀ n : Fin 100000, ∃ r : ℝ, places m c (ix2 n 64) = r := fun n =>
    let ⟨z, _, _, hz⟩ := hids n
    ⟨z, hz⟩
  obtain ⟨n, hH, hI, hR⟩ := final_row m c hreal q
  obtain ⟨s, hs, hlt, htop⟩ := Sorted.top_row (n := 100000) (by norm_num)
    (Cert.ReferenceIdeal.Ops.sims (queries m c) (places m c)) Cert.ReferenceIdeal.Gen.sliceFits_S64x100000_S64x5 q
  have hsim : ∀ k, Cert.ReferenceIdeal.Ops.sims (queries m c) (places m c) (ix2 q k) = sim (queries m c) (places m c) q k :=
    fun k => Cert.ReferenceIdeal.Ops.sims_apply _ _ q k
  have hlt' : ∀ i j, i < j → key (sim (queries m c) (places m c) q (s i)) (s i).val
      < key (sim (queries m c) (places m c) q (s j)) (s j).val := by
    intro i j hij
    rw [← hsim, ← hsim]
    exact hlt i j hij
  choose E8 hE8 using hR
  let E5 : Fin 5 → ℝ := fun j => idOf (places m c) (s ⟨j.val, by omega⟩).val
  have hval : ∀ j : Fin 5, five (queries m c) (places m c) (ix2 q j)
      = sim (queries m c) (places m c) q (s ⟨j.val, by omega⟩) := fun j => (htop j).1.trans (hsim _)
  have hid : ∀ j : Fin 5, ∃ z : ℤ, -2147483648 ≤ z ∧ z < 2147483648 ∧ E5 j = z
      ∧ places m c (ix2 (s ⟨j.val, by omega⟩) 64) = ((z : ℝ) : EReal) := by
    intro j
    obtain ⟨z, h1, h2, hz⟩ := hids (s ⟨j.val, by omega⟩)
    refine ⟨z, h1, h2, ?_, hz⟩
    show idOf (places m c) (s ⟨j.val, _⟩).val = z
    rw [idOf, dif_pos (s ⟨j.val, by omega⟩).isLt]
    show EReal.toReal (places m c (ix2 (s ⟨j.val, _⟩) 64)) = z
    rw [hz, EReal.toReal_coe]
  have hw : ∀ j : Fin 5, fiveIds (queries m c) (places m c) (ix2 q j) = word (E5 j) := by
    intro j
    obtain ⟨z, -, -, he, hz⟩ := hid j
    unfold fiveIds
    rw [Cert.ReferenceIdeal.Ops.take_apply _ _ q j _ (htop j).2, Cert.ReferenceIdeal.Ops.ids_apply, hz, he]
  have ht : ∀ j : Fin 5, ((word (E5 j)).toInt : ℝ) = E5 j := by
    intro j
    obtain ⟨z, h1, h2, he, -⟩ := hid j
    rw [he, Ids.word_toInt z h1 h2]
  have hrank : ∀ j : Fin 5, (final m c).1 (ix2 q (up j)) = five (queries m c) (places m c) (ix2 q j)
      ∧ (five (queries m c) (places m c) (ix2 q j) ≠ ⊥ → n (up j) = (s ⟨j.val, by omega⟩).val) := by
    intro j
    rw [hval]
    exact same_rank ((hH.1 (up j) j.isLt).symm.trans (pick_of_sorted _ s hs hlt' ⟨j.val, by omega⟩))
  have hE : ∀ j : Fin 5, five (queries m c) (places m c) (ix2 q j) ≠ ⊥ → E8 (up j) = E5 j := by
    intro j hj
    have hn := (hrank j).2 hj
    have hi := hI (up j) (by rw [(hrank j).1]; exact hj)
    rw [hE8, hn, EReal.coe_eq_coe_iff] at hi
    exact hi
  obtain ⟨p', hp', hS', hC'⟩ := Cert.KernelIdeal.Body.decided (final m c).1 (final m c).2 q E8 hE8 hH.2
  obtain ⟨p, hp, hS, hC⟩ := Cert.ReferenceIdeal.Elect.decided _ _ q E5 hw ht
  rw [hS', hC', hS, hC]
  exact ⟨outS_up threshold_ne_bot (fun j => (hrank j).1) hH.2 hE hp hp',
    outC_up threshold_ne_bot (fun j => (hrank j).1) hH.2 hE word hp hp'⟩

end Cert.Agree

end
-- ==== Proof.Algebraic.lean ====
/-
  The value claim: on extended reals the kernel and the reference end with the same three results.
-/
module

public import proofs.«01_k».proof.Proof.Agree

@[expose] public section

set_option maxRecDepth 16384

noncomputable section

namespace Cert.Algebraic

open Idealize.ShloMosaic Idealize.ShloMosaic.ValueIdx Idealize.ShloMosaic.TcCoe Idealize.SL.Sem
open Cert.KernelIdeal.Body (queries places final)

section

open Cert.ReferenceIdeal Cert.ReferenceIdeal.Gen Cert.ReferenceIdeal.Value

variable (V : Valuation τ sig (Elt Ideal))

/-- The reference's queries and database. -/
abbrev refX : FVec Ideal S64x64 .f32 := V (Proc.devRef .tc main_arg3)

/-- The reference's database. -/
abbrev refD : FVec Ideal S100000x65 .f32 := V (Proc.devRef .tc main_arg4)

/-- The reference's retrieved similarities are the five greatest. -/
theorem values_eq : res_main_values V = Agree.five (refX V) (refD V) := rfl

/-- Its mask is the threshold test. -/
theorem passed_eq : res_main_v7 V = Elect.passed (res_main_values V) := rfl

/-- Its places are the words of the five rows' ids. -/
theorem ids_eq : res_main_v8 V = Agree.fiveIds (refX V) (refD V) := rfl

/-- Its counts are the counts of passing lanes with one word. -/
theorem counts_eq : res_main_v17 V = Ops.counts (res_main_v7 V) (res_main_v8 V) := rfl

/-- Its ranking is the vote's. -/
theorem ranks_eq : res_main_v23 V = Elect.ranks (res_main_values V) (res_main_v8 V) := by
  unfold res_main_v23 Elect.ranks
  rw [counts_eq, passed_eq]
  rfl

/-- Its winning lane is the vote's. -/
theorem winner_eq : res_main_v24 V = Elect.winner (res_main_values V) (res_main_v8 V) := by
  unfold Elect.winner
  rw [← ranks_eq]
  rfl

/-- Its majority place is the winning lane's word. -/
theorem class_eq : res_main_v27 V = Ops.atLane (res_main_v8 V) (Elect.winner (res_main_values V) (res_main_v8 V)) := by
  rw [← winner_eq]
  rfl

/-- Its number of valid entries is the number of passing lanes. -/
theorem passing_eq : res_main_v32 V = Ops.passing (Elect.passed (res_main_values V)) := by
  rw [← passed_eq]
  rfl

/-- It accepts exactly when the vote does. -/
theorem accepted_eq : res_main_v42 V = Elect.accepted (res_main_values V) (res_main_v8 V) := by
  unfold Elect.accepted
  rw [← winner_eq, ← passing_eq, ← passed_eq, ← counts_eq]
  rfl

end

section

open Cert.ReferenceIdeal Cert.ReferenceIdeal.Gen Cert.ReferenceIdeal.Value

variable (m' : (ℓ : Loc nD τ sig) → Buf (Elt Ideal) ℓ) (g' : Dev nD → PrngReg)

/-- The reference's run: its scores and classes are the vote's on the five greatest similarities. -/
theorem reference_run :
    θ_run defs (onTc (τ := τ) (main (F := Ideal))) ⟨m', fun _ => 0, g'⟩ fun r => ∀ c : Dev nD,
      r.2.mem ((c.tc : Thread nD τ).loc main_v49)
          = Elect.scores (Agree.five (m' ((c.tc : Thread nD τ).loc main_arg3)) (m' ((c.tc : Thread nD τ).loc main_arg4)))
            (Agree.fiveIds (m' ((c.tc : Thread nD τ).loc main_arg3)) (m' ((c.tc : Thread nD τ).loc main_arg4)))
      ∧ r.2.mem ((c.tc : Thread nD τ).loc main_v43)
          = Elect.classes (Agree.five (m' ((c.tc : Thread nD τ).loc main_arg3)) (m' ((c.tc : Thread nD τ).loc main_arg4)))
            (Agree.fiveIds (m' ((c.tc : Thread nD τ).loc main_arg3)) (m' ((c.tc : Thread nD τ).loc main_arg4)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run defs _ _).mono (fun r h c => ?_) (run m' g')
  obtain ⟨-, h49, h43, hargs⟩ := h c
  refine ⟨h49.trans ?_, h43.trans ?_, hargs⟩
  · rw [accepted_eq, class_eq, values_eq, ids_eq]
    rfl
  · rw [accepted_eq, class_eq, values_eq, ids_eq]
    rfl

end

section

open Cert.KernelIdeal Cert.KernelIdeal.Gen

variable (m : (ℓ : Loc nD τ sig) → Buf (Elt Ideal) ℓ) (c : Dev nD) (hids : ∀ n : Fin 100000, Ids.Whole (places m c (ix2 n 64)))
include hids

/-- The kernel's scores are the reference's. -/
theorem scores_eq : (shapeCast S64 (Body.scores m c) shapeCasts_S64x1_S64 : Vec Ideal S64 .f32)
    = Cert.ReferenceIdeal.Elect.scores (Agree.five (queries m c) (places m c)) (Agree.fiveIds (queries m c) (places m c)) := by
  funext i
  have hi : i = ix1 (i 0) := funext fun a => match a with
    | ⟨0, _⟩ => rfl
  rw [hi]
  refine (shapeCast_apply _ shapeCasts_S64x1_S64 (ix1 (i 0)) (ix2 (i 0) 0) ?_).trans (Agree.row m c hids (i 0)).1
  rw [Shape.rowMajor_val_two, Shape.rowMajor_val_one]
  show (i 0).val * 1 + 0 = (i 0).val
  omega

/-- The kernel's classes are the reference's. -/
theorem classes_eq : (shapeCast S64 (Body.classes m c) shapeCasts_S64x1_S64 : Vec Ideal S64 .i32)
    = Cert.ReferenceIdeal.Elect.classes (Agree.five (queries m c) (places m c)) (Agree.fiveIds (queries m c) (places m c)) := by
  funext i
  have hi : i = ix1 (i 0) := funext fun a => match a with
    | ⟨0, _⟩ => rfl
  rw [hi]
  refine (shapeCast_apply _ shapeCasts_S64x1_S64 (ix1 (i 0)) (ix2 (i 0) 0) ?_).trans (Agree.row m c hids (i 0)).2
  rw [Shape.rowMajor_val_two, Shape.rowMajor_val_one]
  show (i 0).val * 1 + 0 = (i 0).val
  omega

end

/-- From memories that agree on the arguments and whose ids 32 bits hold, both programs end with the same results. -/
theorem algebraic : Cert.algebraic_KernelIdeal_ReferenceIdeal_pre_ids_are_int32
    (hKernelIdeal := Cert.KernelIdeal.Gen.facts) (hReferenceIdeal := Cert.ReferenceIdeal.Gen.facts)
    (hPre_ids_are_int32 := Ids.facts) := by
  intro m g m' g' hpre hagree
  have hids : ∀ (c : Dev Cert.KernelIdeal.nD) (n : Fin 100000), Ids.Whole (places m c (ix2 n 64)) :=
    fun c n => @Ids.whole_of_pre Ids.facts _ _ _ _ _ (hpre c) n
  refine ⟨fun c => m ((c.tc : Thread Cert.KernelIdeal.nD Cert.KernelIdeal.τ).loc Cert.KernelIdeal.main_arg0),
    fun c => shapeCast Cert.KernelIdeal.S64 (Cert.KernelIdeal.Body.scores m c) Cert.KernelIdeal.Gen.shapeCasts_S64x1_S64,
    fun c => shapeCast Cert.KernelIdeal.S64 (Cert.KernelIdeal.Body.classes m c) Cert.KernelIdeal.Gen.shapeCasts_S64x1_S64,
    ?_, ?_⟩
  · refine (θ_run _ _ _).mono (fun r h c => ?_) (Cert.KernelIdeal.Body.run m g)
    obtain ⟨h0, h1, a0, a1, a2, a3, a4⟩ := h c
    exact ⟨a0, h0, h1, a0, a1, a2, a3, a4⟩
  · refine (θ_run _ _ _).mono (fun r h c => ?_) (reference_run m' g')
    obtain ⟨h0, h1, a0, a1, a2, a3, a4⟩ := h c
    obtain ⟨e0, -, -, e3, e4⟩ := hagree c
    rw [e3, e4] at h0 h1
    exact ⟨a0.trans e0, h0.trans (scores_eq m c (hids c)).symm, h1.trans (classes_eq m c (hids c)).symm, a0, a1, a2, a3, a4⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- The certificate's claims hold. -/
theorem claim : Cert.Claim :=
  ⟨Cert.Kernel.Gen.facts, Cert.KernelIdeal.Gen.facts, Cert.ReferenceIdeal.Gen.facts, Cert.Ids.facts,
    fun m g _ => Cert.Kernel.Gen.frame m g,
    fun m g _ => Cert.KernelIdeal.Gen.frame m g, fun m g _ => Cert.KernelIdeal.Gen.frame m g,
    fun m g _ => Cert.ReferenceIdeal.Value.frame m g, fun m g _ => Cert.ReferenceIdeal.Value.frame m g,
    trivial, Cert.Algebraic.algebraic⟩

end Cert.Proof

end
